-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S3x128x512 : Shape := ⟨3, ![3, 128, 512]⟩
abbrev S128x512 : Shape := ⟨2, ![128, 512]⟩
abbrev S3 : Shape := ⟨1, ![3]⟩
abbrev S_ : Shape := ⟨0, ![]⟩
abbrev S128x1024 : Shape := ⟨2, ![128, 1024]⟩
abbrev S1x128x512 : Shape := ⟨3, ![1, 128, 512]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S512x1024, .bf16⟩
  | .hbm, ⟨3, _⟩ => ⟨S1024x512, .bf16⟩
  | .hbm, ⟨4, _⟩ => ⟨S512x512, .f32⟩
  | .local _ .vmem, ⟨0, _⟩ => ⟨S512x512, .bf16⟩
  | .local _ .vmem, ⟨1, _⟩ => ⟨S512x1024, .bf16⟩
  | .local _ .vmem, ⟨2, _⟩ => ⟨S512x1024, .bf16⟩
  | .local _ .vmem, ⟨3, _⟩ => ⟨S1024x512, .bf16⟩
  | .local _ .vmem, ⟨4, _⟩ => ⟨S512x512, .f32⟩
  | .local _ .vmem, ⟨5, _⟩ => ⟨S512x1024, .bf16⟩
  | .local _ .vmem, ⟨6, _⟩ => ⟨S3x128x512, .bf16⟩
  | .local _ .vmem, ⟨7, _⟩ => ⟨S3x128x512, .bf16⟩
  | .local _ .vmem, ⟨8, _⟩ => ⟨S128x512, .bf16⟩
  | .local _ .vmem, ⟨9, _⟩ => ⟨S3x128x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_25 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v37 : BitVec 32 := Scalar.addi v2 c1_i32_25
  let c4_i32_26 : BitVec 32 := 4#32
  let v38 : BitVec 32 := Scalar.remsi v37 c4_i32_26
  let c128_i32 : BitVec 32 := 128#32
  let v39 : BitVec 32 := Scalar.muli v38 c128_i32
  let v40 : Index := Scalar.indexCast v39
  let c0_27 : Index := 0#32
  ![v40.toNat, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v37 : BitVec 32 := Scalar.addi v2 c1_i32_25
  let c4_i32_26 : BitVec 32 := 4#32
  let v38 : BitVec 32 := Scalar.remsi v37 c4_i32_26
  let c1_i32_36 : BitVec 32 := 1#32
  let v47 : BitVec 32 := Scalar.muli v38 c1_i32_36
  let v48 : BitVec 32 := Scalar.addi c0_i32_37 v47
  v48.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_42 : BitVec 32 := 2#32
  let v57 : BitVec 32 := Scalar.addi v2 c2_i32_42
  let c4_i32_43 : BitVec 32 := 4#32
  let v58 : BitVec 32 := Scalar.remsi v57 c4_i32_43
  let c1_i32_53 : BitVec 32 := 1#32
  let v67 : BitVec 32 := Scalar.muli v58 c1_i32_53
  let v68 : BitVec 32 := Scalar.addi c0_i32_54 v67
  v68.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v77 : BitVec 32 := Scalar.addi v2 c3_i32_59
  let c4_i32_60 : BitVec 32 := 4#32
  let v78 : BitVec 32 := Scalar.remsi v77 c4_i32_60
  let c1_i32_70 : BitVec 32 := 1#32
  let v87 : BitVec 32 := Scalar.muli v78 c1_i32_70
  let v88 : BitVec 32 := Scalar.addi c0_i32_71 v87
  v88.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_76 : BitVec 32 := 128#32
  let v97 : BitVec 32 := Scalar.muli v2 c128_i32_76
  let v98 : Index := Scalar.indexCast v97
  let c0_77 : Index := 0#32
  ![v98.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_118 : BitVec 32 := 128#32
  let v137 : BitVec 32 := Scalar.muli v2 c128_i32_118
  let v138 : Index := Scalar.indexCast v137
  let c0_119 : Index := 0#32
  ![v138.toNat, 0]
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_122 : BitVec 32 := 1#32
  let v144 : BitVec 32 := Scalar.addi v2 c1_i32_122
  let c4_i32_123 : BitVec 32 := 4#32
  let v145 : BitVec 32 := Scalar.remsi v144 c4_i32_123
  let c1_i32_127 : BitVec 32 := 1#32
  let v146 : BitVec 32 := Scalar.muli v145 c1_i32_127
  let v147 : BitVec 32 := Scalar.addi c0_i32_128 v146
  v147.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_131 : BitVec 32 := 2#32
  let v154 : BitVec 32 := Scalar.addi v2 c2_i32_131
  let c4_i32_132 : BitVec 32 := 4#32
  let v155 : BitVec 32 := Scalar.remsi v154 c4_i32_132
  let c1_i32_136 : BitVec 32 := 1#32
  let v156 : BitVec 32 := Scalar.muli v155 c1_i32_136
  let v157 : BitVec 32 := Scalar.addi c0_i32_137 v156
  v157.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_140 : BitVec 32 := 3#32
  let v164 : BitVec 32 := Scalar.addi v2 c3_i32_140
  let c4_i32_141 : BitVec 32 := 4#32
  let v165 : BitVec 32 := Scalar.remsi v164 c4_i32_141
  let c1_i32_145 : BitVec 32 := 1#32
  let v166 : BitVec 32 := Scalar.muli v165 c1_i32_145
  let v167 : BitVec 32 := Scalar.addi c0_i32_146 v166
  v167.toNat
def k0_off4 (d0 : Dev nD) (c0_i32_149 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v174 : BitVec 32 := Scalar.addi v2 c0_i32_149
  let c1_i32_150 : BitVec 32 := 1#32
  let v175 : BitVec 32 := Scalar.addi v174 c1_i32_150
  let c4_i32_151 : BitVec 32 := 4#32
  let v176 : BitVec 32 := Scalar.remsi v175 c4_i32_151
  let c128_i32_162 : BitVec 32 := 128#32
  let v186 : BitVec 32 := Scalar.muli v176 c128_i32_162
  let v187 : Index := Scalar.indexCast v186
  let c0_163 : Index := 0#32
  ![v187.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x4096 : Shape := ⟨2, ![512, 4096]⟩
abbrev S4096x512 : Shape := ⟨2, ![4096, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x4096, .bf16⟩
  | .hbm, ⟨2, _⟩ => ⟨S512x4096, .bf16⟩
  | .hbm, ⟨3, _⟩ => ⟨S4096x512, .bf16⟩
  | .hbm, ⟨4, _⟩ => ⟨S512x4096, .f32⟩
  | .hbm, ⟨5, _⟩ => ⟨S512x4096, .bf16⟩
  | .hbm, ⟨6, _⟩ => ⟨S512x4096, .f32⟩
  | .hbm, ⟨7, _⟩ => ⟨S512x4096, .bf16⟩
  | .hbm, ⟨8, _⟩ => ⟨S512x4096, .bf16⟩
  | .hbm, ⟨9, _⟩ => ⟨S512x4096, .bf16⟩
  | .hbm, ⟨10, _⟩ => ⟨S_, .bf16⟩
  | .hbm, ⟨11, _⟩ => ⟨S512x4096, .bf16⟩
  | .hbm, ⟨12, _⟩ => ⟨S512x4096, .bf16⟩
  | .hbm, ⟨13, _⟩ => ⟨S512x4096, .bf16⟩
  | .hbm, ⟨14, _⟩ => ⟨S512x4096, .bf16⟩
  | .hbm, ⟨15, _⟩ => ⟨S512x512, .f32⟩
  | .hbm, ⟨16, _⟩ => ⟨S512x512, .bf16⟩
  | .hbm, ⟨17, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KernelIdealProtocol.lean ====
/-
# The exchange of the sharded gated MLP kernel, as a schedule of payments between the four devices

Every device computes its 512 x 1024 share of the hidden layer, multiplies it by its 1024 x 512 share of the last
weight, and the four partial products are summed in two exchanges. In the first (the scatter) device `c` sends the
rows of its partial product that belong to device `c + e` to that device, for `e = 1, 2, 3`; every device adds the
three parts it receives to its own. In the second (the gather) device `c` sends its 128 finished rows, rounded to
bf16, to the three others. Before any transfer, each device signals the barrier semaphore of the three others and
waits for three signals on its own.

This module names the devices, buffers, semaphores and their contents, and states the schedule: which device pays
which semaphore, with how much, and what it hands over. A semaphore is used in one round only.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's ghost state: duties of a semaphore are named by `Fin 3`. -/
abbrev UB : Type := URounds (GSem nD τ sig) (Fin 3)
/-- That of the launch's staging copies, and the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore zero, arbitrary generator registers. -/
def s₀ : MemSt nD τ sig (Elt F) := ⟨m, fun _ => 0, ρ⟩

/-! ## The devices -/

set_option backward.proofsInPublic true in
/-- The device `k + 1` places after `c` (cyclically): where device `c` sends its `k`-th part. -/
def peer (k : Fin 3) (c : Dev nD) : Dev nD := ⟨(c.val + k.val + 1) % 4, Nat.mod_lt _ (by decide)⟩

/-- The mirror of a place: `k + 1` places on and then `rv k + 1` places on is once round. -/
def rv : Fin 3 → Fin 3 | 0 => 2 | 1 => 1 | 2 => 0

theorem rv_rv (k : Fin 3) : rv (rv k) = k := by revert k; decide
theorem peer_rv (k : Fin 3) (c : Dev nD) : peer (rv k) (peer k c) = c := by revert k c; decide
theorem peer_rv' (k : Fin 3) (c : Dev nD) : peer k (peer (rv k) c) = c := by revert k c; decide

/-- `peer k` as a permutation of the devices. -/
def ring (k : Fin 3) : Dev nD ≃ Dev nD := ⟨peer k, peer (rv k), peer_rv k, peer_rv' k⟩

/-! ## Buffers and slots -/

abbrev xM : Memref sig .tc .vmem S512x512 .bf16 := Memref.whole cc0_stg0_0
abbrev gM : Memref sig .tc .vmem S512x1024 .bf16 := Memref.whole cc0_stg1_0
abbrev uM : Memref sig .tc .vmem S512x1024 .bf16 := Memref.whole cc0_stg2_0
abbrev dM : Memref sig .tc .vmem S1024x512 .bf16 := Memref.whole cc0_stg3_0
abbrev oM : Memref sig .tc .vmem S512x512 .f32 := Memref.whole cc0_stg4_0
/-- The hidden layer; -/
abbrev hM : Memref sig .tc .vmem S512x1024 .bf16 := Memref.whole cc0_scratch0
/-- the three parts the scatter sends; -/
abbrev sM : Memref sig .tc .vmem S3x128x512 .bf16 := Memref.whole cc0_scratch1
/-- the three parts it receives; -/
abbrev rM : Memref sig .tc .vmem S3x128x512 .bf16 := Memref.whole cc0_scratch2
/-- the rows the gather sends; -/
abbrev aM : Memref sig .tc .vmem S128x512 .bf16 := Memref.whole cc0_scratch3
/-- the three parts it receives. -/
abbrev bM : Memref sig .tc .vmem S3x128x512 .bf16 := Memref.whole cc0_scratch4

theorem slInb (k : Fin 3) : ∀ a, (![k.val, 0, 0] : Fin 3 → Nat) a + S1x128x512.size a ≤ S3x128x512.size a := by revert k; decide
/-- The rectangle of slot `k` of a buffer of three, -/
abbrev slR (k : Fin 3) : Rect S3x128x512 := Rect.unit (s := S3x128x512) ![k.val, 0, 0] S1x128x512.size (slInb k)
/-- and the slot as a 128 x 512 buffer. -/
abbrev slM (M : Memref sig .tc .vmem S3x128x512 .bf16) (k : Fin 3) : Memref sig .tc .vmem S128x512 .bf16 :=
  (M.slice (slR k) (fun _ => rfl)).squeeze S128x512 squeezes_S1x128x512_S128x512

/-! ## Semaphores -/

/-- The barrier semaphore, which belongs to no launch. -/
abbrev barS : Sem sig := (SemArray.scalar (sig.barrier 0 rfl) : Sems sig S_).sem

theorem s3Inb (k : Fin 3) : ∀ a, (![k.val] : Fin 1 → Nat) a + S1.size a ≤ S3.size a := by revert k; decide
/-- The `k`-th of an array of three semaphores. -/
abbrev smOf (A : DmaSems sig S3) (k : Fin 3) : DmaSem sig :=
  ((A.slice (Rect.unit (s := S3) ![k.val] S1.size (s3Inb k))).squeeze S_ squeezes_S1_S_).sem

/-- The four arrays: the scatter's send and receive semaphores, the gather's send and receive semaphores. -/
abbrev semArr : Fin 4 → DmaSems sig S3
  | 0 => cc0_scratch5 | 1 => cc0_scratch6 | 2 => cc0_scratch7 | 3 => cc0_scratch8

/-- A device's thirteen semaphores: the barrier (`none`) and the `k`-th of the array `a` (`some (a, k)`). -/
abbrev CI : Type := Option (Fin 4 × Fin 3)
abbrev csem : CI → SemLoc sig
  | none => .reg barS
  | some (a, k) => .dma (smOf (semArr a) k)
/-- Semaphore `i` of device `c`. -/
abbrev cell (c : Dev nD) (i : CI) : GSem nD τ sig := ((c : Thread nD τ), csem i)
abbrev kcell (ci : Dev nD × CI) : GSem nD τ sig := cell ci.1 ci.2

/-- Which of the thirteen a semaphore is, if any. -/
def ciOf : SemLoc sig → Option CI
  | .reg _ => some none
  | .dma q => match q.val with
    | 5 => some (some (0, 0)) | 6 => some (some (0, 1)) | 7 => some (some (0, 2))
    | 8 => some (some (1, 0)) | 9 => some (some (1, 1)) | 10 => some (some (1, 2))
    | 11 => some (some (2, 0)) | 12 => some (some (2, 1)) | 13 => some (some (2, 2))
    | 14 => some (some (3, 0)) | 15 => some (some (3, 1)) | 16 => some (some (3, 2))
    | _ => none

theorem ciOf_csem : ∀ i : CI, ciOf (csem i) = some i
  | none => rfl
  | some (a, k) => by revert a k; decide

theorem csem_injective : Function.Injective csem := fun i j h => by
  have := congrArg ciOf h
  rw [ciOf_csem, ciOf_csem] at this
  exact Option.some.inj this

theorem kcell_injective : Function.Injective (kcell : Dev nD × CI → GSem nD τ sig) := by
  rintro ⟨c, i⟩ ⟨c', i'⟩ h
  have h1 : c = c' := congrArg (fun g : GSem nD τ sig => g.1.1) h
  have h2 : csem i = csem i' := congrArg Prod.snd h
  rw [h1, csem_injective h2]

/-- What a transfer of a slot adds to its semaphores. -/
abbrev N : ℕ := (slM rM 0).view.dmaCredit
theorem N_pos : 0 < N := View.dmaCredit_pos _ (by decide)
theorem credit_r (k : Fin 3) : (slM rM k).view.dmaCredit = N := rfl
theorem credit_b (k : Fin 3) : (slM bM k).view.dmaCredit = N := rfl
theorem credit_s (k : Fin 3) : (slM sM k).view.dmaCredit = N := rfl
theorem credit_a : aM.view.dmaCredit = N := rfl

/-! ## Contents -/

/-- What the launch stages on device `c`: its copy of `x` and its blocks of the three weights. -/
def xs (c : Dev nD) : (cc0_stg0_0 : Ref sig .tc).ty.Contents (Elt F) :=
  (win0_0.blk (0 : Fin 1)).view.read (Elt F) ((s₀ m ρ).mem ((c : Thread nD τ).loc main_arg0))
def gs (c : Dev nD) : (cc0_stg1_0 : Ref sig .tc).ty.Contents (Elt F) :=
  (win0_1.blk (0 : Fin 1)).view.read (Elt F) ((s₀ m ρ).mem ((c : Thread nD τ).loc main_arg1))
def us (c : Dev nD) : (cc0_stg2_0 : Ref sig .tc).ty.Contents (Elt F) :=
  (win0_2.blk (0 : Fin 1)).view.read (Elt F) ((s₀ m ρ).mem ((c : Thread nD τ).loc main_arg2))
def ds (c : Dev nD) : (cc0_stg3_0 : Ref sig .tc).ty.Contents (Elt F) :=
  (win0_3.blk (0 : Fin 1)).view.read (Elt F) ((s₀ m ρ).mem ((c : Thread nD τ).loc main_arg3))

/-- Device `c`'s share of the hidden layer. -/
def hid (c : Dev nD) : Vec F S512x1024 .bf16 := k0_pay5 (k0_pay3 (gs m ρ c) (xs m ρ c)) (k0_pay4 (us m ρ c) (xs m ρ c))
/-- Its share of the last weight. -/
def wd (c : Dev nD) : Vec F S1024x512 .bf16 := k0_pay1 (ds m ρ c)

/-- The hidden rows the `k`-th part is made of: those that belong to device `peer k c`; -/
abbrev rowsTo (c : Dev nD) (k : Fin 3) : Rect S512x1024 :=
  Rect.unit (s := S512x1024) (k0_off1 c (BitVec.ofNat 32 (1 + k.val))) S128x1024.size (k0_off1_inb c k)
/-- and those that belong to device `c` itself. -/
abbrev rowsOwn (c : Dev nD) : Rect S512x1024 := Rect.unit (s := S512x1024) (k0_off2 c) S128x1024.size (k0_off2_inb c)

/-- A 128 x 512 block as the one slot of a 1 x 128 x 512 one, and back. -/
abbrev up (X : Vec F S128x512 .bf16) : Vec F S1x128x512 .bf16 := shapeCast S1x128x512 X shapeCasts_S128x512_S1x128x512
abbrev down (X : Vec F S1x128x512 .bf16) : Vec F S128x512 .bf16 := shapeCast S128x512 X shapeCasts_S1x128x512_S128x512

omit [FloatOps F] in
theorem up_down (X : Vec F S1x128x512 .bf16) : up (down X) = X := shapeCast_shapeCast _ _ _
omit [FloatOps F] in
theorem down_up (X : Vec F S128x512 .bf16) : down (up X) = X := shapeCast_shapeCast _ _ _

/-- The `k`-th part device `c` sends in the scatter, to device `peer k c`. -/
def part (c : Dev nD) (k : Fin 3) : Vec F S128x512 .bf16 :=
  down (k0_pay6 (wd m ρ c) (hM.view.readAt (Elt F) (rowsTo c k).toLoadRect (hid m ρ c)))
/-- The part device `c` receives in slot `j`: from device `peer j c`, whose transfer number `rv j` it is. -/
def got (c : Dev nD) (j : Fin 3) : Vec F S128x512 .bf16 := part m ρ (peer j c) (rv j)
/-- Device `c`'s own part and the sum with the first one received. -/
def acc0 (c : Dev nD) : Vec F S128x512 .f32 :=
  k0_pay9 (wd m ρ c) (hM.view.readAt (Elt F) (rowsOwn c).toLoadRect (hid m ρ c)) (up (got m ρ c 0))
/-- Device `c`'s finished rows, -/
def accF (c : Dev nD) : Vec F S128x512 .f32 := k0_pay10 (acc0 m ρ c) (up (got m ρ c 1)) (up (got m ρ c 2))
/-- and the same rounded to bf16, which the gather sends. -/
def accB (c : Dev nD) : Vec F S128x512 .bf16 := k0_pay11 (acc0 m ρ c) (up (got m ρ c 1)) (up (got m ρ c 2))

/-- The result's rows of device `c`, and of device `peer j c`. -/
abbrev outOwn (c : Dev nD) : Rect S512x512 := Rect.unit (s := S512x512) (k0_off3 c) S128x512.size (k0_off3_inb c)
abbrev outOf (c : Dev nD) (j : Fin 3) : Rect S512x512 :=
  Rect.unit (s := S512x512) (k0_off4 c (BitVec.ofNat 32 j.val)) S128x512.size (k0_off4_inb c j)

/-- The four stores of the result on device `c`, the last first. -/
def outL (c : Dev nD) : List (View.Piece (Elt F) S512x512 .f32) :=
  [⟨outOf c 2, k0_pay14 (up (accB m ρ (peer 2 c)))⟩, ⟨outOf c 1, k0_pay13 (up (accB m ρ (peer 1 c)))⟩,
    ⟨outOf c 0, k0_pay12 (up (accB m ρ (peer 0 c)))⟩, ⟨outOwn c, accF m ρ c⟩]
/-- The result on device `c`. -/
def outAt (c : Dev nD) : (cc0_stg4_0 : Ref sig .tc).ty.Contents (Elt F) := oM.view.writes (Elt F) oM.view.junk (outL m ρ c)

/-- The four stores cover the result: each device's rows are one of them. -/
theorem out_cover (c : Dev nD) (i : S512x512.Idx) : ∃ p ∈ outL (F := F) m ρ c, i ∈ p.1.set := by
  have h0 : (i 0).val < 512 := (i 0).isLt
  have h1 : (i 1).val < 512 := (i 1).isLt
  have hown : (i 0).val / 128 = c.val → i ∈ (outOwn c).set := fun h => Rect.mem_set_unit.mpr fun a => by
    rw [k0_off3_eq]; revert a; rw [Fin.forall_fin_two]
    exact ⟨⟨show 128 * c.val ≤ (i 0).val by omega, show (i 0).val < 128 * c.val + 128 by omega⟩,
      ⟨Nat.zero_le _, show (i 1).val < 0 + 512 by omega⟩⟩
  have hof : ∀ j : Fin 3, (i 0).val / 128 = (c.val + j.val + 1) % 4 → i ∈ (outOf c j).set := fun j h => Rect.mem_set_unit.mpr fun a => by
    rw [k0_off4_eq]; revert a; rw [Fin.forall_fin_two]
    exact ⟨⟨show 128 * ((c.val + j.val + 1) % 4) ≤ (i 0).val by omega, show (i 0).val < 128 * ((c.val + j.val + 1) % 4) + 128 by omega⟩,
      ⟨Nat.zero_le _, show (i 1).val < 0 + 512 by omega⟩⟩
  have hc : c.val < 4 := c.isLt
  have hcases : (i 0).val / 128 = c.val ∨ (i 0).val / 128 = (c.val + 0 + 1) % 4 ∨ (i 0).val / 128 = (c.val + 1 + 1) % 4
      ∨ (i 0).val / 128 = (c.val + 2 + 1) % 4 := by omega
  unfold outL
  rcases hcases with h | h | h | h
  · exact ⟨_, .tail _ (.tail _ (.tail _ (.head _))), hown h⟩
  · exact ⟨_, .tail _ (.tail _ (.head _)), hof 0 h⟩
  · exact ⟨_, .tail _ (.head _), hof 1 h⟩
  · exact ⟨_, .head _, hof 2 h⟩

theorem writes_outL (c : Dev nD) (f : (cc0_stg4_0 : Ref sig .tc).ty.Contents (Elt F)) :
    oM.view.writes (Elt F) f (outL m ρ c) = outAt m ρ c := by
  have hr : ∀ g : (cc0_stg4_0 : Ref sig .tc).ty.Contents (Elt F), oM.view.read (Elt F) g = g := View.read_whole cc0_stg4_0
  unfold outAt
  rw [← hr (oM.view.writes (Elt F) f (outL m ρ c)), ← hr (oM.view.writes (Elt F) oM.view.junk (outL m ρ c))]
  exact funext fun i => View.read_writes_apply_eq oM.view f oM.view oM.view.junk i (outL m ρ c) (out_cover m ρ c i)

/-! ## What a device holds of a buffer -/

/-- Device `c` holds the slot `M` at contents `X`. -/
abbrev slot (c : Dev nD) (M : Memref sig .tc .vmem S3x128x512 .bf16) (k : Fin 3) (X : Vec F S128x512 .bf16) : sProp 𝕄 :=
  owns (c : Thread nD τ) (slM M k) fullShare X

/-- The three shares the gather's source is lent out in, one per transfer. -/
def shr : Fin 3 → PosShare TreeShare
  | 0 => fullShare.left | 1 => fullShare.right.left | 2 => fullShare.right.right

/-- A share of the rows device `c` sends in the gather. -/
abbrev aPts (c : Dev nD) (q : PosShare TreeShare) : sProp 𝕄 :=
  aM.view.loc (c : Thread nD τ) ↦[aM.view.set]{q} (accB m ρ c)

/-! ## The schedule -/

/-- What device `peer j c` hands to device `c` with its signal: the slots of the scatter and of the gather that
    `c`'s `j`-th transfers fill on it. -/
def barPay (c : Dev nD) (j : Fin 3) : sProp 𝕄 :=
  iprop((∃ X, slot (peer j c) rM (rv j) X) ∗ ∃ X, slot (peer j c) bM (rv j) X)

/-- What comes with a transfer's semaphores: the sender has its slot of the scatter back (at some contents), or its
    share of the gather's source; the receiver holds its slot at what was sent. -/
def xferPay (c : Dev nD) : Fin 4 × Fin 3 → sProp 𝕄
  | (0, k) => iprop(∃ X, slot c sM k X)
  | (1, j) => slot c rM j (got m ρ c j)
  | (2, k) => aPts m ρ c (shr k)
  | (3, j) => slot c bM j (accB m ρ (peer j c))

instance barPay_storable (c : Dev nD) (j : Fin 3) : BI.Storable (upEmb : UEmb _ 𝕄) (barPay (F := F) c j) := by
  unfold barPay; infer_instance
instance xferPay_storable (c : Dev nD) (ak : Fin 4 × Fin 3) : BI.Storable (upEmb : UEmb _ 𝕄) (xferPay (F := F) m ρ c ak) := by
  unfold xferPay; split <;> infer_instance

/-- One round: the barrier semaphore has three duties of one unit, one per other device; each transfer semaphore the one
    duty `0` of a slot's credit. -/
def exch : Rounds.Schedule (GSem nD τ sig) (Fin 3) 𝕄 where
  duties g r := if r = 0 ∧ g.1.2 = .tc then (match ciOf g.2 with | some none => Finset.univ | some (some _) => {0} | none => ∅) else ∅
  unitless _ := False
  amount g _ _ := match ciOf g.2 with | some (some _) => N | _ => 1
  payload g _ d := match ciOf g.2 with | some none => barPay g.1.1 d | some (some ak) => xferPay m ρ g.1.1 ak | none => iprop(emp)
  amount_pos g _ _ _ := by
    split
    · exact N_pos
    · exact Nat.one_pos

instance exch_payload_storable (g : GSem nD τ sig) (r : ℕ) (d : Fin 3) :
    BI.Storable (upEmb : UEmb _ 𝕄) ((exch (F := F) m ρ).payload g r d) := by
  unfold exch; dsimp only; split <;> infer_instance

section Tables
variable (c : Dev nD)

theorem duties_bar : (exch (F := F) m ρ).duties (cell c none) 0 = Finset.univ := rfl
theorem duties_xfer (ak : Fin 4 × Fin 3) : (exch (F := F) m ρ).duties (cell c (some ak)) 0 = {0} := by
  dsimp only [exch]; rw [ciOf_csem, if_pos ⟨rfl, rfl⟩]
theorem duties_later (g : GSem nD τ sig) : ∀ r, 1 ≤ r → (exch (F := F) m ρ).duties g r = ∅ :=
  fun r hr => by dsimp only [exch]; exact if_neg fun h => by omega
theorem amount_bar (d : Fin 3) : (exch (F := F) m ρ).amount (cell c none) 0 d = 1 := rfl
theorem amount_xfer (ak : Fin 4 × Fin 3) (d : Fin 3) : (exch (F := F) m ρ).amount (cell c (some ak)) 0 d = N := by
  dsimp only [exch]; rw [ciOf_csem]
theorem payload_bar (d : Fin 3) : (exch (F := F) m ρ).payload (cell c none) 0 d = barPay c d := rfl
theorem payload_xfer (ak : Fin 4 × Fin 3) (d : Fin 3) : (exch (F := F) m ρ).payload (cell c (some ak)) 0 d = xferPay m ρ c ak := by
  dsimp only [exch]; rw [ciOf_csem]
theorem expect_bar : (exch (F := F) m ρ).expect (cell c none) 0 = 3 := by
  unfold Schedule.expect Schedule.amountOf
  rw [duties_bar, Finset.sum_congr rfl fun d _ => amount_bar m ρ c d, Finset.sum_const, Finset.card_univ, Fintype.card_fin, smul_eq_mul]
theorem expect_xfer (ak : Fin 4 × Fin 3) : (exch (F := F) m ρ).expect (cell c (some ak)) 0 = N := by
  unfold Schedule.expect Schedule.amountOf; rw [duties_xfer, Finset.sum_singleton, amount_xfer]

/-- What the wait on the barrier returns: for each other device, the slots it hands over. -/
theorem rest_bar : bigSep ((exch (F := F) m ρ).duties (cell c none) 0 \ ∅) (fun d => (exch (F := F) m ρ).payload (cell c none) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
/-- What the wait on a transfer's semaphore returns. -/
theorem rest_xfer (ak : Fin 4 × Fin 3) :
    bigSep ((exch (F := F) m ρ).duties (cell c (some ak)) 0 \ ∅) (fun d => (exch (F := F) m ρ).payload (cell c (some ak)) 0 d) = xferPay m ρ c ak := by
  rw [Finset.sdiff_empty, duties_xfer, bigSep_singleton, payload_xfer]

end Tables

/-! ## What a device owes at launch, and the order of the waits -/

/-- The nine payments device `c` makes to others, the last first: the gather's three transfers, the scatter's three, the
    three signals. -/
def dueCell (c : Dev nD) : ℕ → GSem nD τ sig
  | 0 => cell (peer 2 c) (some (3, 0)) | 1 => cell (peer 1 c) (some (3, 1)) | 2 => cell (peer 0 c) (some (3, 2))
  | 3 => cell (peer 2 c) (some (1, 0)) | 4 => cell (peer 1 c) (some (1, 1)) | 5 => cell (peer 0 c) (some (1, 2))
  | 6 => cell (peer 2 c) none | 7 => cell (peer 1 c) none | _ => cell (peer 0 c) none
def dueAmt : ℕ → ℕ
  | 0 => N | 1 => N | 2 => N | 3 => N | 4 => N | 5 => N | _ => 1
/-- What is still owed when `n` payments are left: the next one is the last summand. -/
def Ow (c : Dev nD) : ℕ → CellTallies nD τ sig Unit
  | 0 => 0
  | n + 1 => Ow c n + tallyAt (dueCell c n) () (dueAmt n)

theorem Ow_pos {c : Dev nD} {g : GSem nD τ sig} {u : Unit} : ∀ {n : ℕ}, 0 < Ow c n g u → ∃ i < n, g = dueCell c i
  | 0, h => absurd h (Nat.lt_irrefl 0)
  | n + 1, h => by
    unfold Ow at h
    rw [Pi.add_apply, Finsupp.add_apply, tallyAt_apply] at h
    by_cases hg : g = dueCell c n
    · exact ⟨n, Nat.lt_succ_self n, hg⟩
    · rw [if_neg (fun h' => hg h'.1), Nat.add_zero] at h
      obtain ⟨i, hi, e⟩ := Ow_pos h
      exact ⟨i, Nat.lt_succ_of_lt hi, e⟩

def L (g : GSem nD τ sig) : Finset Unit := if g.1.2 = .tc then {()} else ∅
/-- The barrier at 1, the scatter's receive semaphores at 2, the gather's at 3, everything else at 0. -/
def lv (g : GSem nD τ sig) (_ : Unit) : ℕ := match ciOf g.2 with
  | some none => 1 | some (some (1, _)) => 2 | some (some (3, _)) => 3 | _ => 0

theorem L_of_ne (g : GSem nD τ sig) (h : g.1.2 ≠ .tc) : L g = ∅ := if_neg h
theorem L_tc (c : Dev nD) (sm : SemLoc sig) : L ((c : Thread nD τ), sm) = {()} := if_pos rfl

/-- The levels of the payments: the gather's, the scatter's, the signals'. -/
def dueLv : ℕ → ℕ
  | 0 => 3 | 1 => 3 | 2 => 3 | 3 => 2 | 4 => 2 | 5 => 2 | _ => 1
theorem lv_due (c : Dev nD) (n : ℕ) : lv (dueCell c n) () = dueLv n :=
  match n with | 0 => rfl | 1 => rfl | 2 => rfl | 3 => rfl | 4 => rfl | 5 => rfl | 6 => rfl | 7 => rfl | _ + 8 => rfl
theorem due_tc (c : Dev nD) (n : ℕ) : () ∈ L (dueCell c n) := by
  unfold dueCell; split <;> exact Finset.mem_singleton_self _

/-- A device may wait on a semaphore while it owes only semaphores above it. -/
theorem mayWait (c : Dev nD) (sm : SemLoc sig) (n : ℕ) (h : ∀ i < n, lv ((c : Thread nD τ), sm) () < dueLv i) :
    (levAts L lv : sProp 𝕄) ⊢ MayWait (c : Thread nD τ) sm () (Ow c n) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := Ow_pos hg; exact due_tc c i)
    (fun p hp => by rw [Finset.mem_singleton.mp hp])
    (fun g u hg => by obtain ⟨i, hi, rfl⟩ := Ow_pos hg; rw [lv_due]; exact h i hi)

end Cert.KernelIdealRun
-- ==== Proof.KernelIdealSteps.lean ====
/-
# One rule per operation of the sharded gated MLP kernel

Each operation the kernel's body performs — a signal to another device, a transfer of the scatter or of the gather, a
wait, a load or a store of a slot — as one rule over what the device holds, in the terms of the schedule.
-/
module

public import proofs.«01_k».proof.Proof.KernelIdealProtocol

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What every device knows: the invariant of each semaphore, under the name `K` gives it, and that its one round is open. -/
def records (K : Dev nD × CI → ℕ) : sProp 𝕄 :=
  iprop((bigSep Finset.univ fun ci : Dev nD × CI => cellInv ER (exch m ρ) (K ci) (kcell ci))
    ∗ bigSep Finset.univ fun ci : Dev nD × CI => reached ER (kcell ci) 0)

instance records_persistent (K : Dev nD × CI → ℕ) : BI.Persistent (records m ρ K) := by unfold records; infer_instance

theorem inv_at (K : Dev nD × CI → ℕ) (ci : Dev nD × CI) : records m ρ K ⊢ cellInv ER (exch m ρ) (K ci) (kcell ci) := by
  unfold records
  iintro ⟨H, -⟩
  iapply (show (bigSep Finset.univ fun ci : Dev nD × CI => (cellInv ER (exch m ρ) (K ci) (kcell ci) : sProp 𝕄)) ⊢ cellInv ER (exch m ρ) (K ci) (kcell ci)
    from bigSep_elim (Finset.mem_univ ci))
  iexact H
theorem reached_at (K : Dev nD × CI → ℕ) (ci : Dev nD × CI) : records m ρ K ⊢ reached ER (kcell ci) 0 := by
  unfold records
  iintro ⟨-, H⟩
  iapply (show (bigSep Finset.univ fun ci : Dev nD × CI => (reached ER (kcell ci) 0 : sProp 𝕄)) ⊢ reached ER (kcell ci) 0
    from bigSep_elim (Finset.mem_univ ci))
  iexact H

/-! ## Loads and stores -/

section Slots
variable (c : Dev nD) (M : Memref sig .tc .vmem S3x128x512 .bf16) (k : Fin 3)

omit [FloatOps F] in
theorem slot_set : (slM M k).view.set = M.view.setOn (slR k).toLoadRect.set := by
  rw [Memref.set_view_squeeze]; exact View.set_slice _ _

omit [FloatOps F] in
theorem slot_read (f : M.view.ty.Contents (Elt F)) (X : Vec F S128x512 .bf16) (h : (slM M k).view.read (Elt F) f = X) :
    M.view.readAt (Elt F) (slR k).toLoadRect f = up X := by
  rw [← h, Memref.read_squeeze_slice M (slR k) (fun _ => rfl) squeezes_S1x128x512_S128x512 shapeCasts_S1x128x512_S128x512 f]
  exact (up_down _).symm

omit [FloatOps F] in
theorem slot_write (f : M.view.ty.Contents (Elt F)) (w : Vec F S1x128x512 .bf16) :
    (slM M k).view.read (Elt F) ((M.access (slR k)).write (Elt F) f w Finset.univ) = down w := by
  rw [Memref.read_squeeze_slice M (slR k) (fun _ => rfl) squeezes_S1x128x512_S128x512 shapeCasts_S1x128x512_S128x512]
  exact congrArg down (View.read_write_univ (v := M.access (slR k)) f w)

variable {X : Vec F S128x512 .bf16} {α : Type}

/-- A load of a slot reads its contents. -/
theorem load_slot {Q : α → sProp 𝕄} {hl : M.view.LoadsAt (slR k).toLoadRect} {kont : Vec F S1x128x512 .bf16 → Prog (TpuEff nD τ sig (Elt F) Λ₀ .tc) α} :
    slot (F := F) c M k X
      ⊢ iprop((slot c M k X -∗ wp frame (wpE (defs₀ (F := F)) 𝒱₀ (c : Thread nD τ) none) Set.univ (kont (up X)) Q)
          -∗ wp frame (wpE (defs₀ (F := F)) 𝒱₀ (c : Thread nD τ) none) Set.univ (.op (.load M (slR k).toLoadRect hl) kont) Q) := by
  unfold slot owns
  iintro ⟨%f, %hf, H⟩ Hk
  iapply (wp_load 𝒱₀ (c : Thread nD τ) none Set.univ (m := M) (subset_of_eq (slot_set M k).symm)) $$ H
  iintro H
  rw [slot_read M k f X hf]
  iapply Hk
  iexists f
  isplitr
  · ipureintro; exact hf
  · iexact H

/-- A store of a slot replaces its contents. -/
theorem store_slot {Q : α → sProp 𝕄} {w : Vec F S1x128x512 .bf16} {hx : (M.access (slR k)).Stores Finset.univ} {hm}
    {kont : PUnit → Prog (TpuEff nD τ sig (Elt F) Λ₀ .tc) α} :
    slot (F := F) c M k X
      ⊢ iprop((slot c M k (down w) -∗ wp frame (wpE (defs₀ (F := F)) 𝒱₀ (c : Thread nD τ) none) Set.univ (kont ⟨⟩) Q)
          -∗ wp frame (wpE (defs₀ (F := F)) 𝒱₀ (c : Thread nD τ) none) Set.univ (.op (.store M (slR k) w Finset.univ hx hm) kont) Q) := by
  unfold slot owns
  iintro ⟨%f, %hf, H⟩ Hk
  iapply (wp_store 𝒱₀ (c : Thread nD τ) none Set.univ (m := M) (r := slR k) (Mk := Finset.univ)
    (by rw [View.setOn_univ, Memref.set_view_squeeze])) $$ H
  iintro H
  iapply Hk
  iexists ((M.access (slR k)).write (Elt F) f w Finset.univ)
  isplitr
  · ipureintro; exact slot_write M k f w
  · iexact H

end Slots

/-! ## Signals, transfers, waits -/

section Rules
variable (K : Dev nD × CI → ℕ) (c : Dev nD)
variable {α : Type} {kont : PUnit → Prog (TpuEff nD τ sig (Elt F) Λ₀ .tc) α}

/-- The signal to device `peer k c` hands it the slots number `k` of the two exchanges. -/
theorem signal_step {Q : α → sProp 𝕄} (k j : Fin 3) (hj : j = rv k) (n : Dev nD) (hn : n = peer k c) (O : CellTallies nD τ sig Unit) (W : Waits sig Unit) :
    iprop(records m ρ K ∗ owes (c : Thread nD τ) (O + tallyAt (cell (peer k c) none) () 1) W
        ∗ dutyTok ER (cell (peer k c) none) 0 j ∗ (∃ X, slot (F := F) c rM k X) ∗ ∃ X, slot (F := F) c bM k X)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (n : Thread nD τ) barS (1#32).toInt) kont) Q) := by
  subst hn hj
  iintro ⟨#HR, HO, Ht, H1, H2⟩
  iapply (Rounds.wp_signal 𝒱₀ ER (exch m ρ) (c : Thread nD τ) none (dst := (peer k c : Thread nD τ)) (κ := K (peer k c, none))
      (r := 0) (d := rv k) (by rw [duties_bar]; exact Finset.mem_univ _) ((amount_bar m ρ (peer k c) (rv k)).trans (by decide)) () O rfl)
  isplitr; · iapply (inv_at m ρ K (peer k c, none)); iexact HR
  isplitl [HO]; · iexact HO
  isplitl [Ht]; · iexact Ht
  isplitl
  · rw [payload_bar]; unfold barPay; rw [peer_rv, rv_rv]
    isplitl [H1] <;> iassumption
  · iapply (reached_at m ρ K (peer k c, none)); iexact HR

/-- Transfer `k` of the scatter: the slot `k` to send goes into slot `rv k` of device `peer k c`. -/
theorem scatter_step {Q : α → sProp 𝕄} (k j : Fin 3) (hj : j = rv k) (n : Dev nD) (hn : n = peer k c) (X : Vec F S128x512 .bf16) (hX : X = part m ρ c k)
    (O : CellTallies nD τ sig Unit) (W : Waits sig Unit)
    {hsc : (slM rM j : Memref sig (Dev.tc n : Thread nD τ).2.kind .vmem S128x512 .bf16).view.ref.isScScratch = false}
    {hsrc : (slM sM k).view.WordExact} {hdst : (slM rM j).view.WordExact}
    {hsem : DmaTarget.Typed .vmem (.dma (smOf cc0_scratch6 j)) (.remote (Dev.tc n : Thread nD τ) (slM rM j) (.dma (smOf cc0_scratch5 k)) hsc)} :
    iprop(records m ρ K ∗ slot c sM k X ∗ (∃ Y, slot (peer k c) rM j Y)
        ∗ owes (c : Thread nD τ) (O + tallyAt (cell (peer k c) (some (1, j))) () N) W
        ∗ dutyTok ER (cell c (some (0, k))) 0 0 ∗ dutyTok ER (cell (peer k c) (some (1, j))) 0 0)
      ⊢ iprop(((cred (tallyAt (cell c (some (0, k))) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slM sM k) (.remote (Dev.tc n : Thread nD τ) (slM rM j) (.dma (smOf cc0_scratch5 k)) hsc)
                (.dma (smOf cc0_scratch6 j)) hsrc hdst hsem) kont) Q) := by
  subst hn hj hX
  unfold slot
  iintro ⟨#HR, Hs, ⟨%Y, Hd⟩, HO, Ht, Ht'⟩
  ihave Hs := (show owns (c : Thread nD τ) (slM sM k) fullShare (part m ρ c k) ⊢
    iprop(∃ f, ⌜(slM sM k).view.read (Elt F) f = part m ρ c k⌝ ∗ (slM sM k).view.loc (c : Thread nD τ) ↦[(slM sM k).view.set]{fullShare} f) from .rfl) $$ Hs
  icases Hs with ⟨%f, %hf, Hs⟩
  ihave Hd := (show owns (peer k c : Thread nD τ) (slM rM (rv k)) fullShare Y ⊢
    iprop(∃ f, ⌜(slM rM (rv k)).view.read (Elt F) f = Y⌝ ∗ (slM rM (rv k)).view.loc (peer k c : Thread nD τ) ↦[(slM rM (rv k)).view.set]{fullShare} f) from .rfl) $$ Hd
  icases Hd with ⟨%fd, %hfd, Hd⟩
  iapply (Rounds.wp_send_pointsTo 𝒱₀ ER (exch m ρ) (c : Thread nD τ) none (c' := (peer k c : Thread nD τ)) (src := slM sM k) (dst := slM rM (rv k))
    (sS := .dma (smOf cc0_scratch5 k)) (sem := .dma (smOf cc0_scratch6 (rv k))) (κ₁ := K (c, some (0, k))) (κ₂ := K (peer k c, some (1, rv k)))
    (r₁ := 0) (r₂ := 0) (d₁ := 0) (d₂ := 0) (fd := fd)
    (by rw [duties_xfer m ρ c (0, k)]; exact Finset.mem_singleton_self _) (by rw [duties_xfer m ρ (peer k c) (1, rv k)]; exact Finset.mem_singleton_self _)
    () () N (credit_r (rv k)) (amount_xfer m ρ c (0, k) 0) (amount_xfer m ρ (peer k c) (1, rv k) 0) O rfl (W := W)
    (by
      rw [payload_xfer m ρ c (0, k)]; unfold xferPay
      iintro H; iexists _; iapply (owns_intro (c : Thread nD τ) (slM sM k) fullShare f); iexact H)
    (by
      rw [payload_xfer m ρ (peer k c) (1, rv k)]; unfold xferPay got
      have h : part m ρ (peer (rv k) (peer k c)) (rv (rv k)) = (slM rM (rv k)).view.read (Elt F)
          ((slM rM (rv k)).view.write (Elt F) fd ((slM sM k).view.read (Elt F) f) Finset.univ) := by
        rw [View.read_write_univ, hf, peer_rv, rv_rv]
      dsimp only
      rw [h]
      exact owns_intro (peer k c : Thread nD τ) (slM rM (rv k)) fullShare _))
  isplitr; · iapply (inv_at m ρ K (c, some (0, k))); iexact HR
  isplitr; · iapply (inv_at m ρ K (peer k c, some (1, rv k))); iexact HR
  isplitl [Hs]; · iexact Hs
  isplitl [Hd]; · iexact Hd
  isplitl [HO]; · iexact HO
  isplitl [Ht]; · iexact Ht
  isplitr; · iapply (reached_at m ρ K (c, some (0, k))); iexact HR
  isplitl [Ht']; · iexact Ht'
  iapply (reached_at m ρ K (peer k c, some (1, rv k))); iexact HR

/-- Transfer `k` of the gather: the finished rows go into slot `rv k` of device `peer k c`; the source is lent out in
    the share `shr k`. -/
theorem gather_step {Q : α → sProp 𝕄} (k j : Fin 3) (hj : j = rv k) (n : Dev nD) (hn : n = peer k c)
    (O : CellTallies nD τ sig Unit) (W : Waits sig Unit)
    {hsc : (slM bM j : Memref sig (Dev.tc n : Thread nD τ).2.kind .vmem S128x512 .bf16).view.ref.isScScratch = false}
    {hsrc : aM.view.WordExact} {hdst : (slM bM j).view.WordExact}
    {hsem : DmaTarget.Typed .vmem (.dma (smOf cc0_scratch8 j)) (.remote (Dev.tc n : Thread nD τ) (slM bM j) (.dma (smOf cc0_scratch7 k)) hsc)} :
    iprop(records m ρ K ∗ aPts m ρ c (shr k) ∗ (∃ Y, slot (F := F) (peer k c) bM j Y)
        ∗ owes (c : Thread nD τ) (O + tallyAt (cell (peer k c) (some (3, j))) () N) W
        ∗ dutyTok ER (cell c (some (2, k))) 0 0 ∗ dutyTok ER (cell (peer k c) (some (3, j))) 0 0)
      ⊢ iprop(((cred (tallyAt (cell c (some (2, k))) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma aM (.remote (Dev.tc n : Thread nD τ) (slM bM j) (.dma (smOf cc0_scratch7 k)) hsc)
                (.dma (smOf cc0_scratch8 j)) hsrc hdst hsem) kont) Q) := by
  subst hn hj
  unfold slot
  iintro ⟨#HR, Hs, ⟨%Y, Hd⟩, HO, Ht, Ht'⟩
  ihave Hd := (show owns (peer k c : Thread nD τ) (slM bM (rv k)) fullShare Y ⊢
    iprop(∃ f, ⌜(slM bM (rv k)).view.read (Elt F) f = Y⌝ ∗ (slM bM (rv k)).view.loc (peer k c : Thread nD τ) ↦[(slM bM (rv k)).view.set]{fullShare} f) from .rfl) $$ Hd
  icases Hd with ⟨%fd, %hfd, Hd⟩
  iapply (Rounds.wp_send_pointsTo 𝒱₀ ER (exch m ρ) (c : Thread nD τ) none (c' := (peer k c : Thread nD τ)) (src := aM) (dst := slM bM (rv k))
    (sS := .dma (smOf cc0_scratch7 k)) (sem := .dma (smOf cc0_scratch8 (rv k))) (κ₁ := K (c, some (2, k))) (κ₂ := K (peer k c, some (3, rv k)))
    (r₁ := 0) (r₂ := 0) (d₁ := 0) (d₂ := 0) (fd := fd)
    (by rw [duties_xfer m ρ c (2, k)]; exact Finset.mem_singleton_self _) (by rw [duties_xfer m ρ (peer k c) (3, rv k)]; exact Finset.mem_singleton_self _)
    () () N (credit_b (rv k)) (amount_xfer m ρ c (2, k) 0) (amount_xfer m ρ (peer k c) (3, rv k) 0) O rfl (W := W)
    (by rw [payload_xfer m ρ c (2, k)]; exact BI.Entails.refl _)
    (by
      rw [payload_xfer m ρ (peer k c) (3, rv k)]; unfold xferPay
      have h : accB m ρ (peer (rv k) (peer k c)) = (slM bM (rv k)).view.read (Elt F)
          ((slM bM (rv k)).view.write (Elt F) fd (aM.view.read (Elt F) (accB m ρ c)) Finset.univ) := by
        rw [View.read_write_univ, peer_rv]; exact (View.read_whole cc0_scratch3 _).symm
      dsimp only
      rw [h]
      exact owns_intro (peer k c : Thread nD τ) (slM bM (rv k)) fullShare _))
  isplitr; · iapply (inv_at m ρ K (c, some (2, k))); iexact HR
  isplitr; · iapply (inv_at m ρ K (peer k c, some (3, rv k))); iexact HR
  isplitl [Hs]; · iexact Hs
  isplitl [Hd]; · iexact Hd
  isplitl [HO]; · iexact HO
  isplitl [Ht]; · iexact Ht
  isplitr; · iapply (reached_at m ρ K (c, some (2, k))); iexact HR
  isplitl [Ht']; · iexact Ht'
  iapply (reached_at m ρ K (peer k c, some (3, rv k))); iexact HR

/-- The wait for three signals: the slots of the other devices that `c`'s transfers fill. -/
theorem barrier_step {Q : α → sProp 𝕄} (W : Waits sig Unit) :
    iprop(records m ρ K ∗ cred (tallyAt (cell c none) () 3) ∗ owes (c : Thread nD τ) (Ow c 6) W ∗ levAts L lv ∗ atPos ER (cell c none) 0 ∅ 0)
      ⊢ iprop(((∃ W', owes (c : Thread nD τ) (Ow c 6) W') ∗ atPos ER (cell c none) 1 ∅ 0 ∗ barPay (F := F) c 0 ∗ barPay (F := F) c 1 ∗ barPay (F := F) c 2
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS (3#32).toInt) kont) Q) := by
  iintro ⟨#HR, Hc, HO, #Hl, Ha⟩ Hk
  iapply (Rounds.wp_wait_rest_token 𝒱₀ ER (exch m ρ) (c : Thread nD τ) none (κ := K (c, none))
      (wpE_semWait_eq 𝒱₀ (c : Thread nD τ) none Set.univ) (Set.mem_univ _) () (O := Ow c 6) (W := W) (R := 0) (m := 0) (T := ∅)
      (by rw [expect_bar]; decide)) $$ [Hc HO Ha]
  · isplitr; · iapply (inv_at m ρ K (c, none)); iexact HR
    isplitl [Hc]; · iexact Hc
    isplitl [HO]; · iexact HO
    isplitr; · iapply (mayWait c (.reg barS) 6 (fun i hi => show 1 < dueLv i from by revert i; decide)); iexact Hl
    iexact Ha
  iintro ⟨HO, Ha, -, Hp⟩
  ihave Hp := (Entails.of_eq (rest_bar m ρ c)) $$ Hp
  iapply Hk
  isplitl [HO]; · iexists _; iexact HO
  isplitl [Ha]; · iexact Ha
  iexact Hp

/-- The wait on a transfer's semaphore with `n` payments left to make. -/
theorem wait_step {Q : α → sProp 𝕄} (a : Fin 4) (k : Fin 3) (n : ℕ) (hn : ∀ i < n, lv (cell c (some (a, k))) () < dueLv i) (q : DmaSem sig) (hq : q = smOf (semArr a) k)
    {s' s'' : Shape} {e' e'' : EltTy} {sp' sp'' : Space} {src : Memref sig .tc sp' s' e'} {dst : Memref sig .tc sp'' s'' e''}
    {hsrc : src.view.WordExact} {hdst : dst.view.WordExact} (hN : dst.view.dmaCredit = N) :
    iprop(records m ρ K ∗ cred (tallyAt (cell c (some (a, k))) () N) ∗ (∃ W, owes (c : Thread nD τ) (Ow c n) W) ∗ levAts L lv ∗ atPos ER (cell c (some (a, k))) 0 ∅ 0)
      ⊢ iprop(((∃ W, owes (c : Thread nD τ) (Ow c n) W) ∗ atPos ER (cell c (some (a, k))) 1 ∅ 0 ∗ xferPay (F := F) m ρ c (a, k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hsrc hdst) kont) Q) := by
  subst hq
  iintro ⟨#HR, Hc, ⟨%W, HO⟩, #Hl, Ha⟩ Hk
  iapply (Rounds.wp_wait_rest_token 𝒱₀ ER (exch m ρ) (c : Thread nD τ) none (κ := K (c, some (a, k)))
      (wpE_waitDma2_eq 𝒱₀ (c : Thread nD τ) none Set.univ) (Set.mem_univ _) () (O := Ow c n) (W := W) (R := 0) (m := 0) (T := ∅)
      (by rw [Nat.zero_add, hN]; exact (expect_xfer m ρ c (a, k)).symm)) $$ [Hc HO Ha]
  · isplitr; · iapply (inv_at m ρ K (c, some (a, k))); iexact HR
    isplitl [Hc]; · rw [hN]; iexact Hc
    isplitl [HO]; · iexact HO
    isplitr; · iapply (mayWait c (.dma (smOf (semArr a) k)) n hn); iexact Hl
    iexact Ha
  iintro ⟨HO, Ha, -, Hp⟩
  ihave Hp := (Entails.of_eq (rest_xfer m ρ c (a, k))) $$ Hp
  iapply Hk
  isplitl [HO]; · iexists _; iexact HO
  isplitl [Ha]; · iexact Ha
  iexact Hp

end Rules

end Cert.KernelIdealRun
-- ==== Proof.KernelIdealParts.lean ====
/-
# The body of the sharded gated MLP kernel, part by part

The printed body is cut into eight parts and a rest. For each part: what the device holds before it, what it holds
after it, and what the part returns.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices and whole buffers -/

section Devices
variable (c : Dev nD)
theorem dev1_peer : (⟨k0_dev1 c, k0_dev1_lt c⟩ : Dev nD) = peer 0 c := Fin.ext (k0_dev1_eq c)
theorem dev2_peer : (⟨k0_dev2 c, k0_dev2_lt c⟩ : Dev nD) = peer 1 c := Fin.ext (k0_dev2_eq c)
theorem dev3_peer : (⟨k0_dev3 c, k0_dev3_lt c⟩ : Dev nD) = peer 2 c := Fin.ext (k0_dev3_eq c)
theorem dev4_peer : (⟨k0_dev4 c, k0_dev4_lt c⟩ : Dev nD) = peer 0 c := Fin.ext (k0_dev4_eq c)
theorem dev5_peer : (⟨k0_dev5 c, k0_dev5_lt c⟩ : Dev nD) = peer 1 c := Fin.ext (k0_dev5_eq c)
theorem dev6_peer : (⟨k0_dev6 c, k0_dev6_lt c⟩ : Dev nD) = peer 2 c := Fin.ext (k0_dev6_eq c)
theorem dev7_peer : (⟨k0_dev7 c, k0_dev7_lt c⟩ : Dev nD) = peer 0 c := Fin.ext (k0_dev7_eq c)
theorem dev8_peer : (⟨k0_dev8 c, k0_dev8_lt c⟩ : Dev nD) = peer 1 c := Fin.ext (k0_dev8_eq c)
theorem dev9_peer : (⟨k0_dev9 c, k0_dev9_lt c⟩ : Dev nD) = peer 2 c := Fin.ext (k0_dev9_eq c)
end Devices

theorem zero2 : (![0, 0] : Fin 2 → Nat) = fun _ => 0 := funext fun a => by fin_cases a <;> rfl

/-- Device `c` holds the whole of a buffer. -/
abbrev pts (c : Dev nD) (b : Ref sig .tc) (f : b.ty.Contents (Elt F)) : sProp 𝕄 := ((c : Thread nD τ).loc b) ↦{fullShare} f

/-- Device `c` is at round `r` of its semaphore `i`. -/
abbrev posn (c : Dev nD) (i : CI) (r : ℕ) : sProp 𝕄 := atPos ER (cell c i) r ∅ 0
/-- What device `c` owes when `n` payments are left. -/
abbrev due (c : Dev nD) (n : ℕ) : sProp 𝕄 := iprop(∃ W, owes (c : Thread nD τ) (Ow c n) W)
/-- The right to pay one unit on the barrier of `peer k c`, -/
abbrev sigTok (c : Dev nD) (k : Fin 3) : sProp 𝕄 := dutyTok ER (cell (peer k c) none) 0 (rv k)
/-- to pay both semaphores of the scatter's transfer `k`, -/
abbrev scatTok (c : Dev nD) (k : Fin 3) : sProp 𝕄 :=
  iprop(dutyTok ER (cell c (some (0, k))) 0 0 ∗ dutyTok ER (cell (peer k c) (some (1, rv k))) 0 0)
/-- and both of the gather's. -/
abbrev gathTok (c : Dev nD) (k : Fin 3) : sProp 𝕄 :=
  iprop(dutyTok ER (cell c (some (2, k))) 0 0 ∗ dutyTok ER (cell (peer k c) (some (3, rv k))) 0 0)
/-- The credit for a wait on one of `c`'s transfer semaphores. -/
abbrev xcred (c : Dev nD) (ak : Fin 4 × Fin 3) : sProp 𝕄 := cred (tallyAt (cell c (some ak)) () N)
/-- A slot at some contents. -/
abbrev slotAny (c : Dev nD) (M : Memref sig .tc .vmem S3x128x512 .bf16) (k : Fin 3) : sProp 𝕄 := iprop(∃ X, slot (F := F) c M k X)

section Whole
omit [FloatOps F]
theorem read_xM (f) : xM.view.readAt (Elt F) (Rect.unit (s := S512x512) ![0, 0] S512x512.size inb_S512x512_S512x512_0_0).toLoadRect f = f :=
  Memref.readAt_unit_zero (Elt F) cc0_stg0_0 zero2 _ f
theorem read_gM (f) : gM.view.readAt (Elt F) (Rect.unit (s := S512x1024) ![0, 0] S512x1024.size inb_S512x1024_S512x1024_0_0).toLoadRect f = f :=
  Memref.readAt_unit_zero (Elt F) cc0_stg1_0 zero2 _ f
theorem read_uM (f) : uM.view.readAt (Elt F) (Rect.unit (s := S512x1024) ![0, 0] S512x1024.size inb_S512x1024_S512x1024_0_0).toLoadRect f = f :=
  Memref.readAt_unit_zero (Elt F) cc0_stg2_0 zero2 _ f
theorem read_dM (f) : dM.view.readAt (Elt F) (Rect.unit (s := S1024x512) ![0, 0] S1024x512.size inb_S1024x512_S1024x512_0_0).toLoadRect f = f :=
  Memref.readAt_unit_zero (Elt F) cc0_stg3_0 zero2 _ f
theorem write_hM (f w) : (hM.access (Rect.unit (s := S512x1024) ![0, 0] S512x1024.size inb_S512x1024_S512x1024_0_0) : View sig .tc _ _ _).write (Elt F) f w Finset.univ = w :=
  Memref.write_access_unit_zero_univ (Elt F) cc0_scratch0 zero2 _ f w
theorem write_aM (f w) : (aM.access (Rect.unit (s := S128x512) ![0, 0] S128x512.size inb_S128x512_S128x512_0_0) : View sig .tc _ _ _).write (Elt F) f w Finset.univ = w :=
  Memref.write_access_unit_zero_univ (Elt F) cc0_scratch3 zero2 _ f w
end Whole

section Share
variable (c : Dev nD)

/-- The gather's source is lent out in three shares, and whole again when they have come back. -/
theorem share_eq3 : (pts c cc0_scratch3 (accB m ρ c) : sProp 𝕄) ⊣⊢ iprop(aPts m ρ c (shr 0) ∗ aPts m ρ c (shr 1) ∗ aPts m ρ c (shr 2)) := by
  unfold aPts shr pts
  rw [show aM.view.set = Finset.univ from View.set_whole _]
  have h1 := pointsTo_share (nD := nD) (τ := τ) (sig := sig) (Ix := Unit) (Val := Elt F) (Name := ℕ) (U := UU) (Lvl := ℕ)
    (ℓ := (c : Thread nD τ).loc cc0_scratch3) (I := Finset.univ) (f := accB m ρ c) (PosShare.mem_left_op_right fullShare)
  have h2 := pointsTo_share (nD := nD) (τ := τ) (sig := sig) (Ix := Unit) (Val := Elt F) (Name := ℕ) (U := UU) (Lvl := ℕ)
    (ℓ := (c : Thread nD τ).loc cc0_scratch3) (I := Finset.univ) (f := accB m ρ c) (PosShare.mem_left_op_right fullShare.right)
  constructor
  · iintro H
    ihave H := h1.1 $$ H
    icases H with ⟨Ha, H⟩
    ihave H := h2.1 $$ H
    icases H with ⟨Hb, Hd⟩
    isplitl [Ha]; · iexact Ha
    isplitl [Hb] <;> iassumption
  · iintro ⟨Ha, Hb, Hd⟩
    iapply h1.2
    isplitl [Ha]; · iexact Ha
    iapply h2.2
    isplitl [Hb] <;> iassumption
end Share

section Parts
variable (K : Dev nD × CI → ℕ) (c : Dev nD)

/-- The three signals, the wait for the other devices' signals, and the loads of the staged arguments: the device returns its number, its share of the last weight and its two products with the first two. -/
theorem part1_ok {Kt : _ → sProp 𝕄} :
    iprop(records m ρ K ∗ levAts L lv ∗ due c 9 ∗ cred (tallyAt (cell c none) () 3) ∗ posn c none 0 ∗ (sigTok c 0 ∗ sigTok c 1 ∗ sigTok c 2)
        ∗ (slotAny c rM 0 ∗ slotAny c rM 1 ∗ slotAny c rM 2) ∗ (slotAny c bM 0 ∗ slotAny c bM 1 ∗ slotAny c bM 2)
        ∗ pts c cc0_stg0_0 (xs m ρ c) ∗ pts c cc0_stg1_0 (gs m ρ c) ∗ pts c cc0_stg2_0 (us m ρ c) ∗ pts c cc0_stg3_0 (ds m ρ c)
        ∗ (due c 6 ∗ posn c none 1 ∗ (slotAny (peer 0 c) rM 2 ∗ slotAny (peer 1 c) rM 1 ∗ slotAny (peer 2 c) rM 0)
            ∗ (slotAny (peer 0 c) bM 2 ∗ slotAny (peer 1 c) bM 1 ∗ slotAny (peer 2 c) bM 0)
            ∗ pts c cc0_stg0_0 (xs m ρ c) ∗ pts c cc0_stg1_0 (gs m ρ c) ∗ pts c cc0_stg2_0 (us m ρ c) ∗ pts c cc0_stg3_0 (ds m ρ c)
          -∗ Kt ⟨c, Scalar.remsi (Scalar.divsi (Dev.word c) 1#32) 4#32, wd m ρ c, k0_pay3 (gs m ρ c) (xs m ρ c), k0_pay4 (us m ρ c) (xs m ρ c)⟩))
      ⊢ wp frame (wpE (defs₀ (F := F)) 𝒱₀ (c : Thread nD τ) none) Set.univ
        (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8) Kt := by
  rw [k0_part1_eq_skeleton]; unfold k0_part1_skel
  simp only [semSignalWord, semWaitWord, Prog.lift, Prog.bind_op, Prog.bind_ret, Prog.pure_eq_ret, wp_deviceId]
  iintro ⟨#HR, #Hl, ⟨%W, HO⟩, Hc, Ha, ⟨Ht0, Ht1, Ht2⟩, ⟨Hr0, Hr1, Hr2⟩, ⟨Hb0, Hb1, Hb2⟩, Hx, Hg, Hu, Hd, Hk⟩
  iapply (signal_step m ρ K c 0 (rv 0) rfl _ (dev1_peer c) (Ow c 8) W) $$ [HO Ht0 Hr0 Hb0]
  · isplitr; · iexact HR
    isplitl [HO]; · iexact HO
    isplitl [Ht0]; · iexact Ht0
    isplitl [Hr0] <;> iassumption
  iintro HO
  iapply (signal_step m ρ K c 1 (rv 1) rfl _ (dev2_peer c) (Ow c 7) W) $$ [HO Ht1 Hr1 Hb1]
  · isplitr; · iexact HR
    isplitl [HO]; · iexact HO
    isplitl [Ht1]; · iexact Ht1
    isplitl [Hr1] <;> iassumption
  iintro HO
  iapply (signal_step m ρ K c 2 (rv 2) rfl _ (dev3_peer c) (Ow c 6) W) $$ [HO Ht2 Hr2 Hb2]
  · isplitr; · iexact HR
    isplitl [HO]; · iexact HO
    isplitl [Ht2]; · iexact Ht2
    isplitl [Hr2] <;> iassumption
  iintro HO
  iapply (barrier_step m ρ K c W) $$ [Hc HO Ha]
  · isplitr; · iexact HR
    isplitl [Hc]; · iexact Hc
    isplitl [HO]; · iexact HO
    isplitr; · iexact Hl
    iexact Ha
  unfold barPay
  iintro ⟨HO, Ha, ⟨Hr0, Hb0⟩, ⟨Hr1, Hb1⟩, Hr2, Hb2⟩
  iapply (wp_load 𝒱₀ (c : Thread nD τ) none Set.univ (m := gM) (Finset.subset_univ _)) $$ Hg; iintro Hg
  rw [read_gM]
  iapply (wp_load 𝒱₀ (c : Thread nD τ) none Set.univ (m := uM) (Finset.subset_univ _)) $$ Hu; iintro Hu
  rw [read_uM]
  iapply (wp_load 𝒱₀ (c : Thread nD τ) none Set.univ (m := dM) (Finset.subset_univ _)) $$ Hd; iintro Hd
  rw [read_dM]
  iapply (wp_load 𝒱₀ (c : Thread nD τ) none Set.univ (m := xM) (Finset.subset_univ _)) $$ Hx; iintro Hx
  rw [read_xM]
  rw [wp_ret]; imodintro
  unfold wd
  iapply Hk
  isplitl [HO]; · iexact HO
  isplitl [Ha]; · iexact Ha
  isplitl [Hr0 Hr1 Hr2]; · (isplitl [Hr0]; · iexact Hr0); (isplitl [Hr1]; · iexact Hr1); iexact Hr2
  isplitl [Hb0 Hb1 Hb2]; · (isplitl [Hb0]; · iexact Hb0); (isplitl [Hb1]; · iexact Hb1); iexact Hb2
  isplitl [Hx]; · iexact Hx
  isplitl [Hg]; · iexact Hg
  isplitl [Hu]; · iexact Hu
  iexact Hd

/-- The hidden layer is stored, and the first transfer of the scatter sent. -/
theorem part2_ok (v : BitVec 32) {Kt : _ → sProp 𝕄} :
    iprop(records m ρ K ∗ due c 6 ∗ (∃ f, pts c cc0_scratch0 f) ∗ slotAny c sM 0 ∗ slotAny (peer 0 c) rM 2 ∗ scatTok c 0
        ∗ (∀ v, due c 5 ∗ pts c cc0_scratch0 (hid m ρ c) ∗ xcred c (0, 0) -∗ Kt v))
      ⊢ wp frame (wpE (defs₀ (F := F)) 𝒱₀ (c : Thread nD τ) none) Set.univ
        (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 c v (wd m ρ c) (k0_pay3 (gs m ρ c) (xs m ρ c)) (k0_pay4 (us m ρ c) (xs m ρ c))) Kt := by
  rw [k0_part2_eq_skeleton]; unfold k0_part2_skel
  simp only [semSignalWord, semWaitWord, Prog.lift, Prog.bind_op, Prog.bind_ret, Prog.pure_eq_ret, wp_deviceId]
  iintro ⟨#HR, HO, ⟨%f, Hh⟩, ⟨%X, Hs0⟩, Hp0, Ht0, Hk⟩
  iapply (wp_load 𝒱₀ (c : Thread nD τ) none Set.univ (m := hM) (Finset.subset_univ _)) $$ Hh; iintro Hh
  iapply (wp_store 𝒱₀ (c : Thread nD τ) none Set.univ (m := hM) (r := Rect.unit (s := S512x1024) ![0, 0] S512x1024.size inb_S512x1024_S512x1024_0_0) (Mk := Finset.univ) (Finset.subset_univ _)) $$ Hh; iintro Hh
  rw [write_hM]
  iapply (wp_load 𝒱₀ (c : Thread nD τ) none Set.univ (m := hM) (Finset.subset_univ _)) $$ Hh; iintro Hh
  iapply (load_slot c sM 0) $$ Hs0; iintro Hs0
  iapply (store_slot c sM 0) $$ Hs0; iintro Hs0
  icases HO with ⟨%W, HO⟩
  icases Ht0 with ⟨Ht, Ht'⟩
  iapply (scatter_step m ρ K c 0 (rv 0) rfl _ (dev4_peer c) _ rfl (Ow c 5) W) $$ [Hs0 Hp0 HO Ht Ht']
  · isplitr; · iexact HR
    isplitl [Hs0]; · iexact Hs0
    isplitl [Hp0]; · iexact Hp0
    isplitl [HO]; · iexact HO
    isplitl [Ht] <;> iassumption
  iintro ⟨Hc00, HO⟩
  rw [wp_ret]; imodintro
  iapply Hk
  isplitl [HO]; · (iexists W; iexact HO)
  isplitl [Hh]; · iexact Hh
  iexact Hc00

/-- The second transfer of the scatter is sent, and the third part stored. -/
theorem part3_ok (v w : BitVec 32) {Kt : _ → sProp 𝕄} :
    iprop(records m ρ K ∗ due c 5 ∗ pts c cc0_scratch0 (hid m ρ c) ∗ slotAny c sM 1 ∗ slotAny c sM 2 ∗ slotAny (peer 1 c) rM 1 ∗ scatTok c 1
        ∗ (∀ v, due c 4 ∗ pts c cc0_scratch0 (hid m ρ c) ∗ xcred c (0, 1) ∗ slot c sM 2 (part m ρ c 2) -∗ Kt v))
      ⊢ wp frame (wpE (defs₀ (F := F)) 𝒱₀ (c : Thread nD τ) none) Set.univ
        (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 c v (wd m ρ c) w) Kt := by
  rw [k0_part3_eq_skeleton]; unfold k0_part3_skel
  simp only [semSignalWord, semWaitWord, Prog.lift, Prog.bind_op, Prog.bind_ret, Prog.pure_eq_ret, wp_deviceId]
  iintro ⟨#HR, HO, Hh, ⟨%X, Hs1⟩, ⟨%Y, Hs2⟩, Hp1, Ht1, Hk⟩
  iapply (wp_load 𝒱₀ (c : Thread nD τ) none Set.univ (m := hM) (Finset.subset_univ _)) $$ Hh; iintro Hh
  iapply (load_slot c sM 1) $$ Hs1; iintro Hs1
  iapply (store_slot c sM 1) $$ Hs1; iintro Hs1
  icases HO with ⟨%W, HO⟩
  icases Ht1 with ⟨Ht, Ht'⟩
  iapply (scatter_step m ρ K c 1 (rv 1) rfl _ (dev5_peer c) _ rfl (Ow c 4) W) $$ [Hs1 Hp1 HO Ht Ht']
  · isplitr; · iexact HR
    isplitl [Hs1]; · iexact Hs1
    isplitl [Hp1]; · iexact Hp1
    isplitl [HO]; · iexact HO
    isplitl [Ht] <;> iassumption
  iintro ⟨Hc01, HO⟩
  iapply (wp_load 𝒱₀ (c : Thread nD τ) none Set.univ (m := hM) (Finset.subset_univ _)) $$ Hh; iintro Hh
  iapply (load_slot c sM 2) $$ Hs2; iintro Hs2
  iapply (store_slot c sM 2) $$ Hs2; iintro Hs2
  rw [wp_ret]; imodintro
  iapply Hk
  isplitl [HO]; · (iexists W; iexact HO)
  isplitl [Hh]; · iexact Hh
  isplitl [Hc01]; · iexact Hc01
  iexact Hs2

/-- The third transfer of the scatter is sent, the first part received, and added to the device's own. -/
theorem part4_ok (v w x : BitVec 32) {Kt : _ → sProp 𝕄} :
    iprop(records m ρ K ∗ levAts L lv ∗ due c 4 ∗ pts c cc0_scratch0 (hid m ρ c) ∗ slot c sM 2 (part m ρ c 2) ∗ slotAny (peer 2 c) rM 0 ∗ scatTok c 2 ∗ xcred c (1, 0) ∗ posn c (some (1, 0)) 0
        ∗ (due c 3 ∗ pts c cc0_scratch0 (hid m ρ c) ∗ xcred c (0, 2) ∗ posn c (some (1, 0)) 1 ∗ slot c rM 0 (got m ρ c 0) -∗ Kt (acc0 m ρ c)))
      ⊢ wp frame (wpE (defs₀ (F := F)) 𝒱₀ (c : Thread nD τ) none) Set.univ
        (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 c v (wd m ρ c) w x) Kt := by
  rw [k0_part4_eq_skeleton]; unfold k0_part4_skel
  simp only [semSignalWord, semWaitWord, Prog.lift, Prog.bind_op, Prog.bind_ret, Prog.pure_eq_ret, wp_deviceId]
  iintro ⟨#HR, #Hl, HO, Hh, Hs2, Hp2, Ht2, Hc10, Ha10, Hk⟩
  icases HO with ⟨%W, HO⟩
  icases Ht2 with ⟨Ht, Ht'⟩
  iapply (scatter_step m ρ K c 2 (rv 2) rfl _ (dev6_peer c) _ rfl (Ow c 3) W) $$ [Hs2 Hp2 HO Ht Ht']
  · isplitr; · iexact HR
    isplitl [Hs2]; · iexact Hs2
    isplitl [Hp2]; · iexact Hp2
    isplitl [HO]; · iexact HO
    isplitl [Ht] <;> iassumption
  iintro ⟨Hc02, HO⟩
  iapply (wp_load 𝒱₀ (c : Thread nD τ) none Set.univ (m := hM) (Finset.subset_univ _)) $$ Hh; iintro Hh
  ihave HO := (show owes (c : Thread nD τ) (Ow c 3) W ⊢ (due c 3 : sProp 𝕄) from by iintro H; iexists W; iexact H) $$ HO
  iapply (wait_step m ρ K c 1 0 3 (fun i hi => show 2 < dueLv i from by revert i; decide) _ rfl (credit_r 0)) $$ [HO Hc10 Ha10]
  · isplitr; · iexact HR
    isplitl [Hc10]; · iexact Hc10
    isplitl [HO]; · iexact HO
    isplitr; · iexact Hl
    iexact Ha10
  unfold xferPay
  iintro ⟨HO, Ha10, Hv0⟩
  iapply (load_slot c rM 0) $$ Hv0; iintro Hv0
  rw [wp_ret]; imodintro
  unfold acc0
  iapply Hk
  isplitl [HO]; · iexact HO
  isplitl [Hh]; · iexact Hh
  isplitl [Hc02]; · iexact Hc02
  isplitl [Ha10]; · iexact Ha10
  iexact Hv0

/-- The other two parts are received and added; the finished rows are stored in the result and, rounded, in the gather's source. -/
theorem part5_ok (v : BitVec 32) (f : (cc0_stg4_0 : Ref sig .tc).ty.Contents (Elt F)) {Kt : _ → sProp 𝕄} :
    iprop(records m ρ K ∗ levAts L lv ∗ due c 3 ∗ (xcred c (1, 1) ∗ posn c (some (1, 1)) 0) ∗ (xcred c (1, 2) ∗ posn c (some (1, 2)) 0) ∗ pts c cc0_stg4_0 f ∗ (∃ g, pts c cc0_scratch3 g)
        ∗ (∀ v, due c 3 ∗ (posn c (some (1, 1)) 1 ∗ slot c rM 1 (got m ρ c 1)) ∗ (posn c (some (1, 2)) 1 ∗ slot c rM 2 (got m ρ c 2))
            ∗ pts c cc0_stg4_0 (oM.view.writes (Elt F) f [⟨outOwn c, accF m ρ c⟩]) ∗ pts c cc0_scratch3 (accB m ρ c) -∗ Kt v))
      ⊢ wp frame (wpE (defs₀ (F := F)) 𝒱₀ (c : Thread nD τ) none) Set.univ
        (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 c v (acc0 m ρ c)) Kt := by
  rw [k0_part5_eq_skeleton]; unfold k0_part5_skel
  simp only [semSignalWord, semWaitWord, Prog.lift, Prog.bind_op, Prog.bind_ret, Prog.pure_eq_ret, wp_deviceId]
  iintro ⟨#HR, #Hl, HO, ⟨Hc11, Ha11⟩, ⟨Hc12, Ha12⟩, Ho, ⟨%g, Hg⟩, Hk⟩
  iapply (wait_step m ρ K c 1 1 3 (fun i hi => show 2 < dueLv i from by revert i; decide) _ rfl (credit_r 1)) $$ [HO Hc11 Ha11]
  · isplitr; · iexact HR
    isplitl [Hc11]; · iexact Hc11
    isplitl [HO]; · iexact HO
    isplitr; · iexact Hl
    iexact Ha11
  unfold xferPay
  iintro ⟨HO, Ha11, Hv1⟩
  iapply (load_slot c rM 1) $$ Hv1; iintro Hv1
  iapply (wait_step m ρ K c 1 2 3 (fun i hi => show 2 < dueLv i from by revert i; decide) _ rfl (credit_r 2)) $$ [HO Hc12 Ha12]
  · isplitr; · iexact HR
    isplitl [Hc12]; · iexact Hc12
    isplitl [HO]; · iexact HO
    isplitr; · iexact Hl
    iexact Ha12
  unfold xferPay
  iintro ⟨HO, Ha12, Hv2⟩
  iapply (load_slot c rM 2) $$ Hv2; iintro Hv2
  iapply (wp_load 𝒱₀ (c : Thread nD τ) none Set.univ (m := oM) (Finset.subset_univ _)) $$ Ho; iintro Ho
  iapply (wp_store 𝒱₀ (c : Thread nD τ) none Set.univ (m := oM) (r := outOwn c) (Mk := Finset.univ) (Finset.subset_univ _)) $$ Ho; iintro Ho
  iapply (wp_load 𝒱₀ (c : Thread nD τ) none Set.univ (m := aM) (Finset.subset_univ _)) $$ Hg; iintro Hg
  iapply (wp_store 𝒱₀ (c : Thread nD τ) none Set.univ (m := aM) (r := Rect.unit (s := S128x512) ![0, 0] S128x512.size inb_S128x512_S128x512_0_0) (Mk := Finset.univ) (Finset.subset_univ _)) $$ Hg; iintro Hg
  rw [write_aM]
  rw [wp_ret]; imodintro
  iapply Hk
  isplitl [HO]; · iexact HO
  isplitl [Ha11 Hv1]; · (isplitl [Ha11] <;> iassumption)
  isplitl [Ha12 Hv2]; · (isplitl [Ha12] <;> iassumption)
  isplitl [Ho]; · iexact Ho
  iexact Hg

/-- The three transfers of the gather are sent. -/
theorem part6_ok (v w : BitVec 32) {Kt : _ → sProp 𝕄} :
    iprop(records m ρ K ∗ due c 3 ∗ (aPts m ρ c (shr 0) ∗ aPts m ρ c (shr 1) ∗ aPts m ρ c (shr 2))
        ∗ (slotAny (peer 0 c) bM 2 ∗ slotAny (peer 1 c) bM 1 ∗ slotAny (peer 2 c) bM 0) ∗ (gathTok c 0 ∗ gathTok c 1 ∗ gathTok c 2)
        ∗ (∀ v, due c 0 ∗ xcred c (2, 0) ∗ xcred c (2, 1) ∗ xcred c (2, 2) -∗ Kt v))
      ⊢ wp frame (wpE (defs₀ (F := F)) 𝒱₀ (c : Thread nD τ) none) Set.univ
        (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 c v w) Kt := by
  rw [k0_part6_eq_skeleton]; unfold k0_part6_skel
  simp only [semSignalWord, semWaitWord, Prog.lift, Prog.bind_op, Prog.bind_ret, Prog.pure_eq_ret, wp_deviceId]
  iintro ⟨#HR, ⟨%W, HO⟩, ⟨Hq0, Hq1, Hq2⟩, ⟨Hp0, Hp1, Hp2⟩, ⟨Ht0, Ht1, Ht2⟩, Hk⟩
  icases Ht0 with ⟨Ht, Ht'⟩
  iapply (gather_step m ρ K c 0 (rv 0) rfl _ (dev7_peer c) (Ow c 2) W) $$ [Hq0 Hp0 HO Ht Ht']
  · isplitr; · iexact HR
    isplitl [Hq0]; · iexact Hq0
    isplitl [Hp0]; · iexact Hp0
    isplitl [HO]; · iexact HO
    isplitl [Ht] <;> iassumption
  iintro ⟨Hc20, HO⟩
  icases Ht1 with ⟨Ht, Ht'⟩
  iapply (gather_step m ρ K c 1 (rv 1) rfl _ (dev8_peer c) (Ow c 1) W) $$ [Hq1 Hp1 HO Ht Ht']
  · isplitr; · iexact HR
    isplitl [Hq1]; · iexact Hq1
    isplitl [Hp1]; · iexact Hp1
    isplitl [HO]; · iexact HO
    isplitl [Ht] <;> iassumption
  iintro ⟨Hc21, HO⟩
  icases Ht2 with ⟨Ht, Ht'⟩
  iapply (gather_step m ρ K c 2 (rv 2) rfl _ (dev9_peer c) (Ow c 0) W) $$ [Hq2 Hp2 HO Ht Ht']
  · isplitr; · iexact HR
    isplitl [Hq2]; · iexact Hq2
    isplitl [Hp2]; · iexact Hp2
    isplitl [HO]; · iexact HO
    isplitl [Ht] <;> iassumption
  iintro ⟨Hc22, HO⟩
  rw [wp_ret]; imodintro
  iapply Hk
  isplitl [HO]; · (iexists W; iexact HO)
  isplitl [Hc20]; · iexact Hc20
  isplitl [Hc21]; · iexact Hc21
  iexact Hc22

/-- The first two parts of the gather are received and stored in the result. -/
theorem part7_ok (v w : BitVec 32) (f : (cc0_stg4_0 : Ref sig .tc).ty.Contents (Elt F)) (l : List (View.Piece (Elt F) S512x512 .f32)) {Kt : _ → sProp 𝕄} :
    iprop(records m ρ K ∗ levAts L lv ∗ due c 0 ∗ (xcred c (3, 0) ∗ posn c (some (3, 0)) 0) ∗ (xcred c (3, 1) ∗ posn c (some (3, 1)) 0) ∗ pts c cc0_stg4_0 (oM.view.writes (Elt F) f l)
        ∗ (∀ v, due c 0 ∗ (posn c (some (3, 0)) 1 ∗ slot c bM 0 (accB m ρ (peer 0 c))) ∗ (posn c (some (3, 1)) 1 ∗ slot c bM 1 (accB m ρ (peer 1 c)))
            ∗ pts c cc0_stg4_0 (oM.view.writes (Elt F) f (⟨outOf c 1, k0_pay13 (up (accB m ρ (peer 1 c)))⟩ :: ⟨outOf c 0, k0_pay12 (up (accB m ρ (peer 0 c)))⟩ :: l)) -∗ Kt v))
      ⊢ wp frame (wpE (defs₀ (F := F)) 𝒱₀ (c : Thread nD τ) none) Set.univ
        (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 c v w) Kt := by
  rw [k0_part7_eq_skeleton]; unfold k0_part7_skel
  simp only [semSignalWord, semWaitWord, Prog.lift, Prog.bind_op, Prog.bind_ret, Prog.pure_eq_ret, wp_deviceId]
  iintro ⟨#HR, #Hl, HO, ⟨Hc30, Ha30⟩, ⟨Hc31, Ha31⟩, Ho, Hk⟩
  iapply (wait_step m ρ K c 3 0 0 (fun i hi => absurd hi (Nat.not_lt_zero i)) _ rfl (credit_b 0)) $$ [HO Hc30 Ha30]
  · isplitr; · iexact HR
    isplitl [Hc30]; · iexact Hc30
    isplitl [HO]; · iexact HO
    isplitr; · iexact Hl
    iexact Ha30
  unfold xferPay
  iintro ⟨HO, Ha30, Hv0⟩
  iapply (load_slot c bM 0) $$ Hv0; iintro Hv0
  iapply (wp_load 𝒱₀ (c : Thread nD τ) none Set.univ (m := oM) (Finset.subset_univ _)) $$ Ho; iintro Ho
  iapply (wp_store 𝒱₀ (c : Thread nD τ) none Set.univ (m := oM) (r := outOf c 0) (Mk := Finset.univ) (Finset.subset_univ _)) $$ Ho; iintro Ho
  iapply (wait_step m ρ K c 3 1 0 (fun i hi => absurd hi (Nat.not_lt_zero i)) _ rfl (credit_b 1)) $$ [HO Hc31 Ha31]
  · isplitr; · iexact HR
    isplitl [Hc31]; · iexact Hc31
    isplitl [HO]; · iexact HO
    isplitr; · iexact Hl
    iexact Ha31
  unfold xferPay
  iintro ⟨HO, Ha31, Hv1⟩
  iapply (load_slot c bM 1) $$ Hv1; iintro Hv1
  iapply (wp_load 𝒱₀ (c : Thread nD τ) none Set.univ (m := oM) (Finset.subset_univ _)) $$ Ho; iintro Ho
  iapply (wp_store 𝒱₀ (c : Thread nD τ) none Set.univ (m := oM) (r := outOf c 1) (Mk := Finset.univ) (Finset.subset_univ _)) $$ Ho; iintro Ho
  rw [wp_ret]; imodintro
  iapply Hk
  isplitl [HO]; · iexact HO
  isplitl [Ha30 Hv0]; · (isplitl [Ha30] <;> iassumption)
  isplitl [Ha31 Hv1]; · (isplitl [Ha31] <;> iassumption)
  iexact Ho

/-- The third part of the gather is received and stored, and the wait for the first transfer of the scatter to have left. -/
theorem part8_ok (v w : BitVec 32) (f : (cc0_stg4_0 : Ref sig .tc).ty.Contents (Elt F)) (l : List (View.Piece (Elt F) S512x512 .f32)) {Kt : _ → sProp 𝕄} :
    iprop(records m ρ K ∗ levAts L lv ∗ due c 0 ∗ (xcred c (3, 2) ∗ posn c (some (3, 2)) 0) ∗ (xcred c (0, 0) ∗ posn c (some (0, 0)) 0) ∗ pts c cc0_stg4_0 (oM.view.writes (Elt F) f l)
        ∗ (due c 0 ∗ (posn c (some (3, 2)) 1 ∗ slot c bM 2 (accB m ρ (peer 2 c))) ∗ (posn c (some (0, 0)) 1 ∗ slotAny c sM 0)
            ∗ pts c cc0_stg4_0 (oM.view.writes (Elt F) f (⟨outOf c 2, k0_pay14 (up (accB m ρ (peer 2 c)))⟩ :: l)) -∗ Kt ⟨⟩))
      ⊢ wp frame (wpE (defs₀ (F := F)) 𝒱₀ (c : Thread nD τ) none) Set.univ
        (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8 c v w) Kt := by
  rw [k0_part8_eq_skeleton]; unfold k0_part8_skel
  simp only [semSignalWord, semWaitWord, Prog.lift, Prog.bind_op, Prog.bind_ret, Prog.pure_eq_ret, wp_deviceId]
  iintro ⟨#HR, #Hl, HO, ⟨Hc32, Ha32⟩, ⟨Hc00, Ha00⟩, Ho, Hk⟩
  iapply (wait_step m ρ K c 3 2 0 (fun i hi => absurd hi (Nat.not_lt_zero i)) _ rfl (credit_b 2)) $$ [HO Hc32 Ha32]
  · isplitr; · iexact HR
    isplitl [Hc32]; · iexact Hc32
    isplitl [HO]; · iexact HO
    isplitr; · iexact Hl
    iexact Ha32
  unfold xferPay
  iintro ⟨HO, Ha32, Hv2⟩
  iapply (load_slot c bM 2) $$ Hv2; iintro Hv2
  iapply (wp_load 𝒱₀ (c : Thread nD τ) none Set.univ (m := oM) (Finset.subset_univ _)) $$ Ho; iintro Ho
  iapply (wp_store 𝒱₀ (c : Thread nD τ) none Set.univ (m := oM) (r := outOf c 2) (Mk := Finset.univ) (Finset.subset_univ _)) $$ Ho; iintro Ho
  iapply (wait_step m ρ K c 0 0 0 (fun i hi => absurd hi (Nat.not_lt_zero i)) _ rfl (credit_s 0)) $$ [HO Hc00 Ha00]
  · isplitr; · iexact HR
    isplitl [Hc00]; · iexact Hc00
    isplitl [HO]; · iexact HO
    isplitr; · iexact Hl
    iexact Ha00
  unfold xferPay
  iintro ⟨HO, Ha00, Hv0⟩
  rw [wp_ret]; imodintro
  iapply Hk
  isplitl [HO]; · iexact HO
  isplitl [Ha32 Hv2]; · (isplitl [Ha32] <;> iassumption)
  isplitl [Ha00 Hv0]; · (isplitl [Ha00] <;> iassumption)
  iexact Ho

end Parts

end Cert.KernelIdealRun
-- ==== Proof.KernelIdealSlots.lean ====
/-
# A buffer of three slots, cut and joined

Holding a buffer of three slots is holding each slot.
-/
module

public import proofs.«01_k».proof.Proof.KernelIdealParts

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer of three slots -/

section Cut
variable (c : Dev nD) (M : Memref sig .tc .vmem S3x128x512 .bf16)

theorem mem_slR (k : Fin 3) (i : S3x128x512.Idx) : i ∈ (slR k).set ↔ (i 0).val = k.val := by
  rw [Rect.mem_set_unit]
  constructor
  · intro h
    have h0 : k.val ≤ (i 0).val ∧ (i 0).val < k.val + 1 := h 0
    omega
  · intro h a
    have h1 : (i 1).val < 128 := (i 1).isLt
    have h2 : (i 2).val < 512 := (i 2).isLt
    match a with
    | 0 => exact ⟨show k.val ≤ (i 0).val by omega, show (i 0).val < k.val + 1 by omega⟩
    | 1 => exact ⟨Nat.zero_le _, show (i 1).val < 0 + 128 by omega⟩
    | 2 => exact ⟨Nat.zero_le _, show (i 2).val < 0 + 512 by omega⟩

theorem slots_disjoint (k k' : Fin 3) (h : k ≠ k') : Disjoint (slM M k).view.set (slM M k').view.set := by
  rw [slot_set, slot_set]
  refine (Finset.disjoint_map _).mpr (Finset.disjoint_left.mpr fun i hi hi' => h (Fin.ext ?_))
  rw [← (mem_slR k i).mp hi, ← (mem_slR k' i).mp hi']

/-- The elements of slot `k`, as elements of the buffer on device `c`. -/
abbrev slotIdx (k : Fin 3) : Finset (Idx (M.view.loc (c : Thread nD τ))) := (slM M k).view.set

theorem mem_slotIdx (k : Fin 3) (i : Idx (M.view.loc (c : Thread nD τ))) : i ∈ slotIdx c M k ↔ i ∈ M.view.setOn (slR k).toLoadRect.set :=
  iff_of_eq (congrArg (fun S : Finset M.view.ty.Idx => i ∈ S) (slot_set M k))

theorem slots_cover : (M.view.set : Finset (Idx (M.view.loc (c : Thread nD τ)))) = (Finset.univ : Finset (Fin 3)).biUnion (slotIdx c M) := by
  ext i; constructor
  · intro hi
    rw [View.set, Finset.mem_map] at hi
    obtain ⟨x, -, rfl⟩ := hi
    refine Finset.mem_biUnion.mpr ⟨⟨(x 0).val, (x 0).isLt⟩, Finset.mem_univ _, ?_⟩
    exact (mem_slotIdx c M _ _).mpr (Finset.mem_map_of_mem M.view.emb ((mem_slR _ x).mpr rfl))
  · intro hi
    obtain ⟨k, -, hi⟩ := Finset.mem_biUnion.mp hi
    exact View.setOn_subset_set (v := M.view) _ ((mem_slotIdx c M k i).mp hi)

theorem bigSep3 (Φ : Fin 3 → sProp 𝕄) : bigSep Finset.univ Φ = iprop(Φ 0 ∗ Φ 1 ∗ Φ 2) :=
  bigSep_univ_eq_bigSepL [0, 1, 2] (by decide) (by decide) Φ

/-- A buffer of three slots is its slots, -/
theorem slots_out : (iprop(∃ f, M.view.loc (c : Thread nD τ) ↦[M.view.set]{fullShare} f) : sProp 𝕄)
    ⊢ iprop(slotAny (F := F) c M 0 ∗ slotAny c M 1 ∗ slotAny c M 2) := by
  rw [← bigSep3 fun k => slotAny (F := F) c M k]
  iintro ⟨%f, H⟩
  have e : (M.view.loc (c : Thread nD τ) ↦[M.view.set]{fullShare} f : sProp 𝕄)
      = bigSep Finset.univ fun k : Fin 3 => M.view.loc (c : Thread nD τ) ↦[slotIdx c M k]{fullShare} f := by
    rw [slots_cover c M]
    exact pointsTo_biUnion Finset.univ (slotIdx c M) fun k _ k' _ h => slots_disjoint M k k' h
  ihave H := (Entails.of_eq e) $$ H
  iapply (show (bigSep Finset.univ fun k : Fin 3 => (M.view.loc (c : Thread nD τ) ↦[slotIdx c M k]{fullShare} f : sProp 𝕄))
      ⊢ bigSep Finset.univ fun k => slotAny (F := F) c M k from bigSep_mono fun k _ => show (M.view.loc (c : Thread nD τ) ↦[slotIdx c M k]{fullShare} f : sProp 𝕄) ⊢ slotAny (F := F) c M k from by
    iintro H
    iexists _
    iapply (owns_intro (c : Thread nD τ) (slM M k) fullShare f)
    iexact H)
  iexact H

/-- and three slots are the buffer again. -/
theorem slots_in : iprop(slotAny (F := F) c M 0 ∗ slotAny c M 1 ∗ slotAny c M 2)
    ⊢ (iprop(∃ f, M.view.loc (c : Thread nD τ) ↦[M.view.set]{fullShare} f) : sProp 𝕄) := by
  rw [← bigSep3 fun k => slotAny (F := F) c M k]
  iintro H
  ihave H := (show (bigSep Finset.univ fun k : Fin 3 => slotAny (F := F) c M k)
      ⊢ bigSep Finset.univ fun k : Fin 3 => (iprop(∃ f, M.view.loc (c : Thread nD τ) ↦[slotIdx c M k]{fullShare} f) : sProp 𝕄) from bigSep_mono fun k _ => show slotAny (F := F) c M k ⊢ (iprop(∃ f, M.view.loc (c : Thread nD τ) ↦[slotIdx c M k]{fullShare} f) : sProp 𝕄) from by
    unfold slotAny slot owns
    iintro ⟨%X, %f, -, H⟩
    iexists f
    iexact H) $$ H
  haveI : ∀ _ : Fin 3, Nonempty (Buf (Elt F) (M.view.loc (c : Thread nD τ))) := fun _ => ⟨M.view.junk⟩
  ihave H := (BI.bigSep_exists_pi Finset.univ (fun (k : Fin 3) f => (M.view.loc (c : Thread nD τ) ↦[slotIdx c M k]{fullShare} f : sProp 𝕄))) $$ H
  icases H with ⟨%fs, H⟩
  ihave H := (pointsTo_biUnion_join Finset.univ (slotIdx c M) fs (fs 0) fun k _ k' _ h => slots_disjoint M k k' h) $$ H
  icases H with ⟨%g, -, H⟩
  iexists g
  rw [slots_cover c M]
  iexact H

theorem whole_out (h : M.view.set = Finset.univ) : (iprop(∃ f, M.view.loc (c : Thread nD τ) ↦{fullShare} f) : sProp 𝕄)
    ⊢ iprop(slotAny (F := F) c M 0 ∗ slotAny c M 1 ∗ slotAny c M 2) := by
  rw [← h]; exact slots_out c M
theorem whole_in (h : M.view.set = Finset.univ) : iprop(slotAny (F := F) c M 0 ∗ slotAny c M 1 ∗ slotAny c M 2)
    ⊢ (iprop(∃ f, M.view.loc (c : Thread nD τ) ↦{fullShare} f) : sProp 𝕄) := by
  rw [← h]; exact slots_in c M

end Cut

end Cert.KernelIdealRun
-- ==== Proof.KernelIdealBody.lean ====
/-
# The body of the sharded gated MLP kernel, and what a launch gives it and takes from it

The eight parts and the rest in a row: from the staged arguments, the five scratch buffers, the rights and credits of
the exchange, the body reaches the result in its staging buffer, the arguments as they were, and every semaphore of its
own back at zero.
-/
module

public import proofs.«01_k».proof.Proof.KernelIdealSlots

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- Its positions, and the rights to the payments it makes. -/
def linear (c : Dev nD) : sProp 𝕄 :=
  iprop((bigSep Finset.univ fun i : CI => posn c i 0) ∗ (bigSep Finset.univ fun k : Fin 3 => sigTok c k)
    ∗ (bigSep Finset.univ fun k : Fin 3 => scatTok c k) ∗ bigSep Finset.univ fun k : Fin 3 => gathTok c k)
/-- The credits for the waits others pay: its barrier's three units, its receive semaphores' transfers. -/
def credits (c : Dev nD) : sProp 𝕄 :=
  iprop(cred (tallyAt (cell c none) () 3) ∗ (bigSep Finset.univ fun j : Fin 3 => xcred c (1, j)) ∗ bigSep Finset.univ fun j : Fin 3 => xcred c (3, j))
/-- With the invariants under some names. -/
def ghost (c : Dev nD) : sProp 𝕄 := iprop(∃ K, records m ρ K ∗ linear c)
def start (c : Dev nD) : sProp 𝕄 := iprop(ghost m ρ c ∗ credits c ∗ levAts L lv)
/-- The five scratch buffers, at some contents. -/
def scratch (c : Dev nD) : sProp 𝕄 :=
  iprop((∃ f, pts (F := F) c cc0_scratch0 f) ∗ (∃ f, pts (F := F) c cc0_scratch1 f) ∗ (∃ f, pts (F := F) c cc0_scratch2 f)
    ∗ (∃ f, pts (F := F) c cc0_scratch3 f) ∗ ∃ f, pts (F := F) c cc0_scratch4 f)
def Φ₀ (c : Dev nD) : sProp 𝕄 := iprop(start m ρ c ∗ scratch c)
/-- At the end the scratch buffers, and every semaphore of the exchange at zero and closed. -/
def Φ₁ (c : Dev nD) : sProp 𝕄 := iprop(scratch (F := F) c ∗ bigSep Finset.univ fun i : CI => semVal (cell c i) 0)

/-- The launch's data: the arrays as they were, what the body leaves in each staging buffer, what it starts from, ends
    with and owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => gs m ρ c
    | ⟨2, _⟩ => us m ρ c
    | ⟨3, _⟩ => ds m ρ c
    | ⟨4, _⟩ => outAt m ρ c
  Φ t := match t with
    | ⟨0, _⟩ => Φ₀ m ρ c
    | ⟨_ + 1, _⟩ => Φ₁ c
  q _ := fullShare
  owed t := match t with
    | ⟨0, _⟩ => Ow c 9
    | ⟨_ + 1, _⟩ => 0

theorem cells13 (Φ : CI → sProp 𝕄) : bigSep Finset.univ Φ
    = iprop(Φ none ∗ Φ (some (0, 0)) ∗ Φ (some (0, 1)) ∗ Φ (some (0, 2)) ∗ Φ (some (1, 0)) ∗ Φ (some (1, 1)) ∗ Φ (some (1, 2))
      ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2),
    some (2, 0), some (2, 1), some (2, 2), some (3, 0), some (3, 1), some (3, 2)] (by decide) (by decide) Φ

/-- A fact every device knows can be used at each member of a family. -/
theorem bigSep_know {I : Type} [DecidableEq I] (S : Finset I) {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- After its one round every semaphore of the exchange is closed: its counter is at zero and the device's own. -/
theorem close_all (K : Dev nD × CI → ℕ) (c : Dev nD) :
    iprop(records m ρ K ∗ bigSep Finset.univ fun i : CI => posn (F := F) c i 1)
      ⊢ |={Set.univ}=> (bigSep Finset.univ fun i : CI => semVal (cell c i) 0 : sProp 𝕄) :=
  (bigSep_know Finset.univ fun i _ => show _ ⊢ iprop(|={Set.univ}=> (semVal (cell c i) 0 : sProp 𝕄)) from by
    iintro ⟨#HR, Ha⟩
    imod (Rounds.cell_close ER (exch m ρ) (Set.mem_univ (K (c, i))) (fun h => h) (R := 0 + 1) (duties_later m ρ (cell c i))) $$ [Ha] with Hz
    · isplitr; · iapply (inv_at m ρ K (c, i)); iexact HR
      iexact Ha
    imodintro
    iexact Hz).trans (bigSep_fupd _ _)

/-! ## The body -/

section Body

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxHeartbeats 1000000 in
/-- The body from the rights, credits and buffers to the result. -/
theorem body_ok (K : Dev nD × CI → ℕ) (c : Dev nD) (f : (cc0_stg4_0 : Ref sig .tc).ty.Contents (Elt F)) (Kt : PUnit → sProp 𝕄) :
    iprop((records m ρ K ∗ linear c ∗ credits c ∗ levAts L lv ∗ scratch c) ∗ due c 9
        ∗ (pts c cc0_stg0_0 (xs m ρ c) ∗ pts c cc0_stg1_0 (gs m ρ c) ∗ pts c cc0_stg2_0 (us m ρ c) ∗ pts c cc0_stg3_0 (ds m ρ c) ∗ pts c cc0_stg4_0 f)
        ∗ ((Φ₁ c ∗ due c 0 ∗ pts c cc0_stg0_0 (xs m ρ c) ∗ pts c cc0_stg1_0 (gs m ρ c) ∗ pts c cc0_stg2_0 (us m ρ c) ∗ pts c cc0_stg3_0 (ds m ρ c)
            ∗ pts c cc0_stg4_0 (outAt m ρ c)) -∗ Kt ⟨⟩))
      ⊢ wp frame (wpE (defs₀ (F := F)) 𝒱₀ (c : Thread nD τ) none) Set.univ
        (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8) Kt := by
  simp only [cc0_body_eq_skeleton]; unfold cc0_body_skel
  simp only [Prog.lift, Prog.bind_op, Prog.bind_ret, Prog.pure_eq_ret, wp_bind]
  unfold linear credits scratch
  rw [cells13, bigSep3, bigSep3, bigSep3, bigSep3, bigSep3]
  iintro ⟨⟨#HR, ⟨⟨Ha, Ha00, Ha01, Ha02, Ha10, Ha11, Ha12, Ha20, Ha21, Ha22, Ha30, Ha31, Ha32⟩, Hsig, ⟨Ht0, Ht1, Ht2⟩, Hgath⟩, ⟨Hc, ⟨Hc10, Hc11, Hc12⟩, Hc30, Hc31, Hc32⟩, #Hl,
    Hh, Hs, Hr, Hg, Hb⟩, HO, ⟨Hx, Hgt, Hu, Hd, Ho⟩, Hk⟩
  ihave Hs := (whole_out c sM (View.set_whole _)) $$ Hs
  ihave Hr := (whole_out c rM (View.set_whole _)) $$ Hr
  ihave Hb := (whole_out c bM (View.set_whole _)) $$ Hb
  icases Hs with ⟨Hs0, Hs1, Hs2⟩
  iapply (part1_ok m ρ K c)
  isplitr; · iexact HR
  isplitr; · iexact Hl
  isplitl [HO]; · iexact HO
  isplitl [Hc]; · iexact Hc
  isplitl [Ha]; · iexact Ha
  isplitl [Hsig]; · iexact Hsig
  isplitl [Hr]; · iexact Hr
  isplitl [Hb]; · iexact Hb
  isplitl [Hx]; · iexact Hx
  isplitl [Hgt]; · iexact Hgt
  isplitl [Hu]; · iexact Hu
  isplitl [Hd]; · iexact Hd
  iintro ⟨HO, Ha, ⟨Hp0, Hp1, Hp2⟩, Hb, Hx, Hgt, Hu, Hd⟩
  dsimp only
  iapply (part2_ok m ρ K c _)
  isplitr; · iexact HR
  isplitl [HO]; · iexact HO
  isplitl [Hh]; · iexact Hh
  isplitl [Hs0]; · iexact Hs0
  isplitl [Hp0]; · iexact Hp0
  isplitl [Ht0]; · iexact Ht0
  iintro %v2 ⟨HO, Hh, Hc00⟩
  iapply (part3_ok m ρ K c _ _)
  isplitr; · iexact HR
  isplitl [HO]; · iexact HO
  isplitl [Hh]; · iexact Hh
  isplitl [Hs1]; · iexact Hs1
  isplitl [Hs2]; · iexact Hs2
  isplitl [Hp1]; · iexact Hp1
  isplitl [Ht1]; · iexact Ht1
  iintro %v3 ⟨HO, Hh, Hc01, Hs2⟩
  obtain ⟨v3, w3⟩ := v3
  dsimp only
  iapply (part4_ok m ρ K c _ _ _)
  isplitr; · iexact HR
  isplitr; · iexact Hl
  isplitl [HO]; · iexact HO
  isplitl [Hh]; · iexact Hh
  isplitl [Hs2]; · iexact Hs2
  isplitl [Hp2]; · iexact Hp2
  isplitl [Ht2]; · iexact Ht2
  isplitl [Hc10]; · iexact Hc10
  isplitl [Ha10]; · iexact Ha10
  iintro ⟨HO, Hh, Hc02, Ha10, Hr0⟩
  iapply (part5_ok m ρ K c _ f)
  isplitr; · iexact HR
  isplitr; · iexact Hl
  isplitl [HO]; · iexact HO
  isplitl [Hc11 Ha11]
  · isplitl [Hc11]; · iexact Hc11
    iexact Ha11
  isplitl [Hc12 Ha12]
  · isplitl [Hc12]; · iexact Hc12
    iexact Ha12
  isplitl [Ho]; · iexact Ho
  isplitl [Hg]; · iexact Hg
  iintro %v5 ⟨HO, ⟨Ha11, Hr1⟩, ⟨Ha12, Hr2⟩, Ho, Hg⟩
  ihave Hg := (share_eq3 m ρ c).1 $$ Hg
  iapply (part6_ok m ρ K c _ _)
  isplitr; · iexact HR
  isplitl [HO]; · iexact HO
  isplitl [Hg]; · iexact Hg
  isplitl [Hb]; · iexact Hb
  isplitl [Hgath]; · iexact Hgath
  iintro %v6 ⟨HO, Hc20, Hc21, Hc22⟩
  iapply (part7_ok m ρ K c _ _ f _)
  isplitr; · iexact HR
  isplitr; · iexact Hl
  isplitl [HO]; · iexact HO
  isplitl [Hc30 Ha30]
  · isplitl [Hc30]; · iexact Hc30
    iexact Ha30
  isplitl [Hc31 Ha31]
  · isplitl [Hc31]; · iexact Hc31
    iexact Ha31
  isplitl [Ho]; · iexact Ho
  iintro %v7 ⟨HO, ⟨Ha30, Hb0⟩, ⟨Ha31, Hb1⟩, Ho⟩
  iapply (part8_ok m ρ K c _ _ f _)
  isplitr; · iexact HR
  isplitr; · iexact Hl
  isplitl [HO]; · iexact HO
  isplitl [Hc32 Ha32]
  · isplitl [Hc32]; · iexact Hc32
    iexact Ha32
  isplitl [Hc00 Ha00]
  · isplitl [Hc00]; · iexact Hc00
    iexact Ha00
  isplitl [Ho]; · iexact Ho
  iintro ⟨HO, ⟨Ha32, Hb2⟩, ⟨Ha00, Hs0⟩, Ho⟩
  iapply (wait_step m ρ K c 0 1 0 (fun i hi => absurd hi (Nat.not_lt_zero i)) _ rfl (credit_s 1)) $$ [HO Hc01 Ha01]
  · isplitr; · iexact HR
    isplitl [Hc01]; · iexact Hc01
    isplitl [HO]; · iexact HO
    isplitr; · iexact Hl
    iexact Ha01
  unfold xferPay
  iintro ⟨HO, Ha01, Hs1⟩
  iapply (wait_step m ρ K c 0 2 0 (fun i hi => absurd hi (Nat.not_lt_zero i)) _ rfl (credit_s 2)) $$ [HO Hc02 Ha02]
  · isplitr; · iexact HR
    isplitl [Hc02]; · iexact Hc02
    isplitl [HO]; · iexact HO
    isplitr; · iexact Hl
    iexact Ha02
  unfold xferPay
  iintro ⟨HO, Ha02, Hs2⟩
  iapply (wait_step m ρ K c 2 0 0 (fun i hi => absurd hi (Nat.not_lt_zero i)) _ rfl credit_a) $$ [HO Hc20 Ha20]
  · isplitr; · iexact HR
    isplitl [Hc20]; · iexact Hc20
    isplitl [HO]; · iexact HO
    isplitr; · iexact Hl
    iexact Ha20
  unfold xferPay
  iintro ⟨HO, Ha20, Hg0⟩
  iapply (wait_step m ρ K c 2 1 0 (fun i hi => absurd hi (Nat.not_lt_zero i)) _ rfl credit_a) $$ [HO Hc21 Ha21]
  · isplitr; · iexact HR
    isplitl [Hc21]; · iexact Hc21
    isplitl [HO]; · iexact HO
    isplitr; · iexact Hl
    iexact Ha21
  unfold xferPay
  iintro ⟨HO, Ha21, Hg1⟩
  iapply (wait_step m ρ K c 2 2 0 (fun i hi => absurd hi (Nat.not_lt_zero i)) _ rfl credit_a) $$ [HO Hc22 Ha22]
  · isplitr; · iexact HR
    isplitl [Hc22]; · iexact Hc22
    isplitl [HO]; · iexact HO
    isplitr; · iexact Hl
    iexact Ha22
  unfold xferPay
  iintro ⟨HO, Ha22, Hg2⟩
  ihave Hg := (share_eq3 m ρ c).2 $$ [Hg0 Hg1 Hg2]
  · isplitl [Hg0]; · iexact Hg0
    isplitl [Hg1]; · iexact Hg1
    iexact Hg2
  ihave Hs := (whole_in c sM (View.set_whole _)) $$ [Hs0 Hs1 Hs2]
  · isplitl [Hs0]; · iexact Hs0
    isplitl [Hs1]; · iexact Hs1
    iexact Hs2
  ihave Hr := (whole_in c rM (View.set_whole _)) $$ [Hr0 Hr1 Hr2]
  · isplitl [Hr0]; · (iexists _; iexact Hr0)
    isplitl [Hr1]; · (iexists _; iexact Hr1)
    (iexists _; iexact Hr2)
  ihave Hb := (whole_in c bM (View.set_whole _)) $$ [Hb0 Hb1 Hb2]
  · isplitl [Hb0]; · (iexists _; iexact Hb0)
    isplitl [Hb1]; · (iexists _; iexact Hb1)
    (iexists _; iexact Hb2)
  imod (close_all m ρ K c) $$ [Ha Ha00 Ha01 Ha02 Ha10 Ha11 Ha12 Ha20 Ha21 Ha22 Ha30 Ha31 Ha32] with Hz
  · isplitr; · iexact HR
    rw [cells13]
    isplitl [Ha]; · iexact Ha
    isplitl [Ha00]; · iexact Ha00
    isplitl [Ha01]; · iexact Ha01
    isplitl [Ha02]; · iexact Ha02
    isplitl [Ha10]; · iexact Ha10
    isplitl [Ha11]; · iexact Ha11
    isplitl [Ha12]; · iexact Ha12
    isplitl [Ha20]; · iexact Ha20
    isplitl [Ha21]; · iexact Ha21
    isplitl [Ha22]; · iexact Ha22
    isplitl [Ha30]; · iexact Ha30
    isplitl [Ha31]; · iexact Ha31
    iexact Ha32
  rw [wp_ret]; imodintro
  iapply Hk
  unfold Φ₁ scratch
  isplitl [Hh Hs Hr Hg Hb Hz]
  · isplitl [Hh Hs Hr Hg Hb]
    · isplitl [Hh]; · (iexists _; iexact Hh)
      isplitl [Hs]; · iexact Hs
      isplitl [Hr]; · iexact Hr
      isplitl [Hg]; · (iexists _; iexact Hg)
      iexact Hb
    iexact Hz
  isplitl [HO]; · iexact HO
  isplitl [Hx]; · iexact Hx
  isplitl [Hgt]; · iexact Hgt
  isplitl [Hu]; · iexact Hu
  isplitl [Hd]; · iexact Hd
  (rw [← writes_outL m ρ c f]; unfold outL; iexact Ho)

set_option maxRecDepth 4000 in
set_option maxHeartbeats 1000000 in
/-- The body as the launch calls it. -/
theorem body_obligation (c : Dev nD) : BodyObligation (dats (F := F) m ρ 0 c) (defs₀ (F := F)) 𝒱₀ () Set.univ := fun t => by
  rw [fin_N0 t, bigSep_W0, bigSep_W0]
  simp only [owns_stg]
  show iprop(Φ₀ m ρ c ∗ (dats m ρ 0 c).owesAt () t0_0.castSucc
      ∗ (∃ d, stg c cc0_stg0_0 ((dats m ρ 0 c).before (0 : Fin 5) t0_0 d)) ∗ (∃ d, stg c cc0_stg1_0 ((dats m ρ 0 c).before (1 : Fin 5) t0_0 d))
      ∗ (∃ d, stg c cc0_stg2_0 ((dats m ρ 0 c).before (2 : Fin 5) t0_0 d)) ∗ (∃ d, stg c cc0_stg3_0 ((dats m ρ 0 c).before (3 : Fin 5) t0_0 d))
      ∗ (∃ d, stg c cc0_stg4_0 ((dats m ρ 0 c).before (4 : Fin 5) t0_0 d)))
    ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          cc0_scratch5 cc0_scratch6 cc0_scratch7 cc0_scratch8)
      (fun _ => iprop(Φ₁ c ∗ (dats m ρ 0 c).owesAt () t0_0.succ ∗ stg c cc0_stg0_0 (xs m ρ c) ∗ stg c cc0_stg1_0 (gs m ρ c)
        ∗ stg c cc0_stg2_0 (us m ρ c) ∗ stg c cc0_stg3_0 (ds m ρ c) ∗ stg c cc0_stg4_0 (outAt m ρ c)))
  unfold Φ₀ start ghost Dat.owesAt Pipeline.owesWithin
  iintro ⟨⟨⟨⟨%K, #HR, Hlin⟩, Hcr, #Hl⟩, Hscr⟩, ⟨%W, -, HO⟩, ⟨%d0, %g0, %hg0, Hx⟩, ⟨%d1, %g1, %hg1, Hg⟩, ⟨%d2, %g2, %hg2, Hu⟩, ⟨%d3, %g3, %hg3, Hd⟩, ⟨%d4, %g4, -, Ho⟩⟩
  have hx : g0 = xs m ρ c := by rw [hg0]; unfold Dat.before; rw [if_pos (fetch0_0 t0_0)]; rfl
  have hg : g1 = gs m ρ c := by rw [hg1]; unfold Dat.before; rw [if_pos (fetch0_1 t0_0)]; rfl
  have hu : g2 = us m ρ c := by rw [hg2]; unfold Dat.before; rw [if_pos (fetch0_2 t0_0)]; rfl
  have hd : g3 = ds m ρ c := by rw [hg3]; unfold Dat.before; rw [if_pos (fetch0_3 t0_0)]; rfl
  subst hx hg hu hd
  iapply (body_ok m ρ K c g4)
  isplitl [Hlin Hcr Hscr]
  · isplitr; · iexact HR
    isplitl [Hlin]; · iexact Hlin
    isplitl [Hcr]; · iexact Hcr
    isplitr; · iexact Hl
    iexact Hscr
  isplitl [HO]; · (iexists W; iexact HO)
  isplitl [Hx Hg Hu Hd Ho]
  · isplitl [Hx]; · iexact Hx
    isplitl [Hg]; · iexact Hg
    isplitl [Hu]; · iexact Hu
    isplitl [Hd]; · iexact Hd
    iexact Ho
  iintro ⟨HΦ, ⟨%W', HO⟩, Hx, Hg, Hu, Hd, Ho⟩
  isplitl [HΦ]; · iexact HΦ
  isplitl [HO]
  · iexists W'
    isplitr; · ipureintro; exact fun _ _ => Or.inl trivial
    iexact HO
  isplitl [Hx]; · (iexists _; (isplitr; · (ipureintro; rfl)); iexact Hx)
  isplitl [Hg]; · (iexists _; (isplitr; · (ipureintro; rfl)); iexact Hg)
  isplitl [Hu]; · (iexists _; (isplitr; · (ipureintro; rfl)); iexact Hu)
  isplitl [Hd]; · (iexists _; (isplitr; · (ipureintro; rfl)); iexact Hd)
  (iexists _; (isplitr; · (ipureintro; rfl)); iexact Ho)

end Body

end Cert.KernelIdealRun
-- ==== Proof.KernelIdealLaunch.lean ====
/-
# The launch of the sharded gated MLP kernel: every run terminates, with the computed contents

Each device starts with its thirteen semaphores at zero; the rights to pay them are minted per semaphore and dealt to
the devices that pay, and what every device owes at the start is credit to the device that waits for it.
-/
module

public import proofs.«01_k».proof.Proof.KernelIdealBody
public import Idealize.ShloMosaic.Lib.Pipeline.CollectiveSegs
public import Idealize.ShloMosaic.Lib.StableHlo.RunHlo

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and rights at launch -/

/-- The kernel's own scoped semaphores: the transfers'. -/
abbrev osem (ak : Fin 4 × Fin 3) : SemLoc sig := csem (some ak)

theorem ownSemFacts : Pipeline.OwnSemFacts cfg0.spec osem := by decide

theorem share_full (c : Dev nD) (w : Fin cfg0.W) : (dats m ρ 0 c).share w = fullShare := by unfold Dat.share; split <;> rfl

/-- All semaphores of the exchange, on all devices. -/
def allCells : Finset (GSem nD τ sig) := Finset.univ.map ⟨kcell, kcell_injective⟩

/-- The duties of a device's own semaphores: the barrier's three (`0`), and the one of each transfer semaphore (`a + 1`). -/
def tokKey : Fin 5 × Fin 3 → CI × Fin 3
  | (0, k) => (none, k) | (1, k) => (some (0, k), 0) | (2, k) => (some (1, k), 0) | (3, k) => (some (2, k), 0) | (4, k) => (some (3, k), 0)
theorem tokKey_injective : Function.Injective tokKey := by decide
def tokOf (cj : Dev nD × (Fin 5 × Fin 3)) : GSem nD τ sig × ℕ × Fin 3 := (cell cj.1 (tokKey cj.2).1, 0, (tokKey cj.2).2)
theorem tokOf_injective : Function.Injective tokOf := by
  rintro ⟨c, j⟩ ⟨c', j'⟩ h
  have h1 := kcell_injective (a₁ := (c, (tokKey j).1)) (a₂ := (c', (tokKey j').1)) (congrArg Prod.fst h)
  have h2 : (tokKey j).2 = (tokKey j').2 := congrArg (fun x : GSem nD τ sig × ℕ × Fin 3 => x.2.2) h
  have h3 : c = c' := congrArg Prod.fst h1
  rw [h3, tokKey_injective (Prod.ext (congrArg Prod.snd h1) h2)]
def allToks : Finset (GSem nD τ sig × ℕ × Fin 3) := Finset.univ.map ⟨tokOf, tokOf_injective⟩

/-- The launch's ghost element: the staging copies', and the exchange's. -/
def u₀ : UU :=
  (initOf (Pipeline.cells cfgs cellOf_inj) (Pipeline.launchToks cfgs cellOf_inj), initOf allCells allToks)

/-- The rights to pay device `c`'s own semaphores. -/
def toks (c : Dev nD) : sProp 𝕄 :=
  iprop((bigSep Finset.univ fun k : Fin 3 => dutyTok ER (cell c none) 0 k) ∗ (bigSep Finset.univ fun k : Fin 3 => dutyTok ER (cell c (some (0, k))) 0 0)
    ∗ (bigSep Finset.univ fun k : Fin 3 => dutyTok ER (cell c (some (1, k))) 0 0) ∗ (bigSep Finset.univ fun k : Fin 3 => dutyTok ER (cell c (some (2, k))) 0 0)
    ∗ bigSep Finset.univ fun k : Fin 3 => dutyTok ER (cell c (some (3, k))) 0 0)

/-- What the ghost element gives device `c`. -/
def dealt (c : Dev nD) : sProp 𝕄 :=
  iprop((bigSep Finset.univ fun i : CI => roundState ER (exch m ρ) (kcell (c, i)) 0)
    ∗ (bigSep Finset.univ fun i : CI => iprop(posn c i 0 ∗ reached ER (kcell (c, i)) 0)) ∗ toks c)

theorem fund_all : BI.own (ER (initOf allCells allToks)) ⊢ (|==> bigSep Finset.univ (dealt m ρ) : sProp 𝕄) := by
  have hC (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_prod, bigSep_univ_eq_bigSepL [(0 : Fin 5), 1, 2, 3, 4] (by decide) (by decide)]
    rfl
  iintro H
  imod (Rounds.fund ER (exch m ρ) allCells allToks) $$ H with ⟨Hst, Hr, Hat, Htok⟩
  imodintro
  ihave Hst := (Entails.of_eq (hC fun g => roundState ER (exch m ρ) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-- The semaphores at zero a launch gives a device: the transfers', and the barrier. -/
theorem sems_eq (c : Dev nD) :
    (iprop(Pipeline.ownSems0 (Ix := Unit) (Name := ℕ) (U := UU) (Lvl := ℕ) (Val := Elt F) (τ := τ) osem c ∗ unscopedSems0 c) : sProp 𝕄)
      ⊣⊢ bigSep Finset.univ fun i : CI => semVal (cell c i) 0 := by
  have hu : (unscopedSems0 c : sProp 𝕄) = semVal (cell c none) 0 := by
    unfold unscopedSems0; rw [bigSep_eq_bigSepL_of_eq [SemLoc.reg barS] (by decide) (by decide)]; rfl
  rw [Pipeline.ownSems0_eq_of_list c osem [(0, 0), (0, 1), (0, 2), (1, 0), (1, 1), (1, 2), (2, 0), (2, 1), (2, 2), (3, 0), (3, 1), (3, 2)] (by decide) (by decide),
    hu, cells13]
  exact Laws.sep_comm

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun i : CI => iprop(∃ κ : ℕ, cellInv ER (exch m ρ) κ (kcell (c, i))))
          ∗ (bigSep Finset.univ fun i : CI => iprop(posn c i 0 ∗ reached ER (kcell (c, i)) 0)) ∗ toks c) := by
  unfold dealt
  iintro ⟨Hos, Hus, Hst, Hat, Htok⟩
  ihave Hv := (sems_eq (F := F) c).1 $$ [Hos Hus]
  · isplitl [Hos] <;> iassumption
  imod (show iprop((bigSep Finset.univ fun i : CI => semVal (kcell (c, i)) 0) ∗ bigSep Finset.univ fun i : CI => roundState ER (exch m ρ) (kcell (c, i)) 0)
      ⊢ (|={Set.univ}=> bigSep Finset.univ fun i : CI => iprop(∃ κ : ℕ, cellInv ER (exch m ρ) κ (kcell (c, i))) : sProp 𝕄) from by
        rw [← bigSep_sep']
        exact (bigSep_mono fun i _ => (Rounds.body_intro ER (exch m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem swap3 (A B C : sProp 𝕄) : iprop(A ∗ B ∗ C) ⊢ iprop(C ∗ B ∗ A) := by
  iintro ⟨H0, H1, H2⟩
  isplitl [H2]; · iexact H2
  isplitl [H1]; · iexact H1
  iexact H0

/-- A family over devices and places, each place read round by its own rotation. -/
theorem deal_round (T : Dev nD → Fin 3 → sProp 𝕄) :
    (bigSep Finset.univ fun c : Dev nD => bigSep Finset.univ fun k : Fin 3 => T c k)
      = bigSep Finset.univ fun c : Dev nD => bigSep Finset.univ fun k : Fin 3 => T (peer k c) (rv k) := by
  have h (U : Dev nD → Fin 3 → sProp 𝕄) : (bigSep Finset.univ fun c : Dev nD => bigSep Finset.univ fun k : Fin 3 => U c k)
      = iprop((bigSep Finset.univ fun c => U c 0) ∗ (bigSep Finset.univ fun c => U c 1) ∗ bigSep Finset.univ fun c => U c 2) := by
    rw [bigSep_congr (s := Finset.univ) fun (c : Dev nD) _ => bigSep3 (U c), bigSep_sep', bigSep_sep']
  have e (k : Fin 3) : (bigSep Finset.univ fun c : Dev nD => T c (rv k)) = bigSep Finset.univ fun c : Dev nD => T (peer k c) (rv k) :=
    bigSep_univ_equiv (ring k) fun c => T c (rv k)
  rw [h T, h fun c k => T (peer k c) (rv k), ← e 0, ← e 1, ← e 2]
  exact BI.Entails.antisymm (swap3 _ _ _) (swap3 _ _ _)

/-- The rights dealt to the devices that pay. -/
theorem toks_deal : (bigSep Finset.univ fun c : Dev nD => (toks c : sProp 𝕄))
    ⊢ bigSep Finset.univ fun c : Dev nD => iprop((bigSep Finset.univ fun k : Fin 3 => sigTok c k)
        ∗ (bigSep Finset.univ fun k : Fin 3 => scatTok c k) ∗ bigSep Finset.univ fun k : Fin 3 => gathTok c k) := by
  unfold toks
  simp only [bigSep_sep']
  rw [deal_round fun c k => (dutyTok ER (cell c none) 0 k : sProp 𝕄), deal_round fun c k => (dutyTok ER (cell c (some (1, k))) 0 0 : sProp 𝕄),
    deal_round fun c k => (dutyTok ER (cell c (some (3, k))) 0 0 : sProp 𝕄)]
  iintro ⟨H0, H1, H2, H3, H4⟩
  isplitl [H0]; · iexact H0
  isplitl [H1 H2]
  · isplitl [H1]; · iexact H1
    iexact H2
  isplitl [H3]; · iexact H3
  iexact H4

theorem regroup :
    (bigSep Finset.univ fun c : Dev nD => iprop((bigSep Finset.univ fun i : CI => iprop(∃ κ : ℕ, cellInv ER (exch m ρ) κ (kcell (c, i))))
          ∗ (bigSep Finset.univ fun i : CI => iprop(posn c i 0 ∗ reached ER (kcell (c, i)) 0)) ∗ toks c) : sProp 𝕄)
      ⊢ bigSep Finset.univ (ghost m ρ) := by
  rw [bigSep_sep', bigSep_sep', ← bigSep_univ_prod (fun ci : Dev nD × CI => iprop(∃ κ : ℕ, cellInv ER (exch m ρ) κ (kcell ci))),
    bigSep_congr (s := Finset.univ) (fun (c : Dev nD) _ => bigSep_sep' Finset.univ (fun i : CI => (posn c i 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (exch m ρ) κ (kcell ci) : sProp 𝕄))) $$ HI
  icases HK with ⟨%K, #HI⟩
  ihave Htk := (toks_deal (F := F)) $$ Htok
  iapply (bigSep_know (R := records m ρ K) Finset.univ fun c _ => show iprop(records m ρ K ∗ linear c) ⊢ ghost m ρ c from by
    unfold ghost
    iintro ⟨#HR, H⟩
    iexists K
    isplitr; · iexact HR
    iexact H)
  isplitr
  · unfold records; isplitl; · iexact HI
    iexact HR
  · unfold linear
    iapply (Entails.of_eq (bigSep_sep' Finset.univ (fun c : Dev nD => bigSep Finset.univ fun i : CI => (posn c i 0 : sProp 𝕄)) _).symm)
    isplitl [Hat]; · iexact Hat
    iexact Htk

/-- All devices' semaphores become invariants at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credit at launch -/

/-- Which semaphore of which device the `n`-th payment from the last goes to. -/
def dueAt (c : Dev nD) : Fin 9 → Dev nD × CI
  | 0 => (peer 2 c, some (3, 0)) | 1 => (peer 1 c, some (3, 1)) | 2 => (peer 0 c, some (3, 2))
  | 3 => (peer 2 c, some (1, 0)) | 4 => (peer 1 c, some (1, 1)) | 5 => (peer 0 c, some (1, 2))
  | 6 => (peer 2 c, none) | 7 => (peer 1 c, none) | 8 => (peer 0 c, none)

theorem dueAt_cell (c : Dev nD) (n : Fin 9) : dueCell c n.val = kcell (dueAt c n) := by
  match n with
  | 0 => rfl | 1 => rfl | 2 => rfl | 3 => rfl | 4 => rfl | 5 => rfl | 6 => rfl | 7 => rfl | 8 => rfl

theorem Ow_apply (c : Dev nD) (g : GSem nD τ sig) : ∀ n, Ow c n g () = ∑ i ∈ Finset.range n, if g = dueCell c i then dueAmt i else 0
  | 0 => rfl
  | n + 1 => by
    unfold Ow
    rw [Pi.add_apply, Finsupp.add_apply, Ow_apply c g n, tallyAt_apply, Finset.sum_range_succ]
    simp only [and_true]

/-- What all devices owe one semaphore: the payments that go to it. -/
theorem owed_sum (ci : Dev nD × CI) :
    (∑ d : Dev nD, Ow d 9 (kcell ci) ()) = ∑ p ∈ Finset.univ.filter (fun p : Dev nD × Fin 9 => ci = dueAt p.1 p.2), dueAmt p.2.val := by
  rw [Finset.sum_filter, Fintype.sum_prod_type]
  refine Finset.sum_congr rfl fun d _ => ?_
  rw [Ow_apply, Finset.sum_range]
  refine Finset.sum_congr rfl fun n _ => ?_
  rw [dueAt_cell]
  by_cases h : ci = dueAt d n
  · rw [if_pos (congrArg kcell h), if_pos h]
  · rw [if_neg (fun h' => h (kcell_injective h')), if_neg h]

theorem to_bar : ∀ c : Dev nD, Finset.univ.filter (fun p : Dev nD × Fin 9 => (c, none) = dueAt p.1 p.2) = {(peer 0 c, 6), (peer 1 c, 7), (peer 2 c, 8)} := by
  decide +kernel
theorem to_scat : ∀ (c : Dev nD) (j : Fin 3), Finset.univ.filter (fun p : Dev nD × Fin 9 => (c, some (1, j)) = dueAt p.1 p.2) = {(peer j c, ⟨3 + j.val, by omega⟩)} := by
  decide +kernel
theorem to_gath : ∀ (c : Dev nD) (j : Fin 3), Finset.univ.filter (fun p : Dev nD × Fin 9 => (c, some (3, j)) = dueAt p.1 p.2) = {(peer j c, ⟨j.val, by omega⟩)} := by
  decide +kernel

theorem owed_bar (c : Dev nD) : (∑ d : Dev nD, Ow d 9 (kcell (c, none)) ()) = 3 := by
  rw [owed_sum, to_bar, Finset.sum_insert (by revert c; decide), Finset.sum_insert (by revert c; decide), Finset.sum_singleton]; rfl
theorem owed_scat (c : Dev nD) (j : Fin 3) : (∑ d : Dev nD, Ow d 9 (kcell (c, some (1, j))) ()) = N := by
  rw [owed_sum, to_scat, Finset.sum_singleton]; revert j; rw [Fin.forall_fin_succ, Fin.forall_fin_succ, Fin.forall_fin_one]; exact ⟨rfl, rfl, rfl⟩
theorem owed_gath (c : Dev nD) (j : Fin 3) : (∑ d : Dev nD, Ow d 9 (kcell (c, some (3, j))) ()) = N := by
  rw [owed_sum, to_gath, Finset.sum_singleton]; revert j; rw [Fin.forall_fin_succ, Fin.forall_fin_succ, Fin.forall_fin_one]; exact ⟨rfl, rfl, rfl⟩

abbrev owed₀ (c : Dev nD) : CellTallies nD τ sig Unit := Ow c 9

theorem launch_cred (c : Dev nD) (i : CI) (n : ℕ) (h : (∑ d : Dev nD, Ow d 9 (kcell (c, i)) ()) = n) :
    tallyOn (cell c i) (launchCredit (Pipeline.owing owed₀) 0 (cell c i)) = (tallyAt (cell c i) () n : CellTallies nD τ sig Unit) := by
  unfold tallyAt; refine congrArg _ (Finsupp.ext fun u => ?_); cases u
  rw [Pipeline.launchCredit_owing, Finsupp.single_eq_same]; exact h

theorem credits_intro (c : Dev nD) : (Pipeline.launchCred owed₀ c : sProp 𝕄) ⊢ credits c := by
  unfold Pipeline.launchCred credits
  refine (show (bigSep Finset.univ fun sm : SemLoc sig => cred (tallyOn ((c.tc : Thread nD τ), sm) (launchCredit (Pipeline.owing owed₀) 0 ((c.tc : Thread nD τ), sm))))
      ⊢ (bigSep (Finset.univ.map ⟨csem, csem_injective⟩) fun sm : SemLoc sig => cred (tallyOn ((c.tc : Thread nD τ), sm) (launchCredit (Pipeline.owing owed₀) 0 ((c.tc : Thread nD τ), sm))) : sProp 𝕄)
      from bigSep_subset (Finset.subset_univ _)).trans ?_
  rw [bigSep_map, cells13, bigSep3, bigSep3]
  have hb := launch_cred c none 3 (owed_bar c)
  have hs := fun j => launch_cred c (some (1, j)) N (owed_scat c j)
  have hg := fun j => launch_cred c (some (3, j)) N (owed_gath c j)
  unfold xcred
  rw [← hb, ← hs 0, ← hs 1, ← hs 2, ← hg 0, ← hg 1, ← hg 2]
  iintro ⟨Hc, -, -, -, Hc10, Hc11, Hc12, -, -, -, Hc30, Hc31, Hc32⟩
  isplitl [Hc]; · iexact Hc
  isplitl [Hc10 Hc11 Hc12]
  · isplitl [Hc10]; · iexact Hc10
    isplitl [Hc11]; · iexact Hc11
    iexact Hc12
  isplitl [Hc30]; · iexact Hc30
  isplitl [Hc31]; · iexact Hc31
  iexact Hc32

/-! ## What the launch asks for -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ghost m ρ c)
      ⊢ |={Set.univ}=> iprop(start m ρ c ∗ emp) := by
  iintro ⟨-, Hlev, Hcr, -, HG⟩
  ihave Hc := (credits_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (sems_eq (F := F) c).2 $$ Hz
  icases Hz with ⟨H1, H0⟩
  isplitl [H0]; · iexact H0
  isplitl [H1]; · iexact H1
  iexact Hr

theorem waits (c : Dev nD) : (levAts L lv : sProp 𝕄) ⊢ Pipeline.cellsWaits cfgs (dats m ρ) () 0 c :=
  Pipeline.cellsWaits_intro cfgs (dats m ρ) () 0 c fun w s t => by
    have h0 : ∀ q : DmaSem sig, ciOf (.dma q) = none → ∀ n, (levAts L lv : sProp 𝕄) ⊢ MayWait (c : Thread nD τ) (.dma q) () (Ow c n) :=
      fun q hq n => mayWait c (.dma q) n fun i hi => by
        unfold lv; dsimp only; rw [hq]
        match i with
        | 0 => decide | 1 => decide | 2 => decide | 3 => decide | 4 => decide | 5 => decide | _ + 6 => exact Nat.one_pos
    have hq : ∀ (w : Fin cfg0.W) (s : Fin (cfg0.win w).nbuf), ciOf (.dma ((cfg0.win w).sem s)) = none := by decide
    rcases t with ⟨_ | _, ht⟩
    · exact h0 _ (hq w s) 9
    · exact h0 _ (hq w s) 0

/-! ## The run -/

/-- What the array of window `w` holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of four devices, for any float values, from any memory with zero counters: every weakly fair execution
    terminates, and every final state has each device's result at the computed contents, the arguments unchanged and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_in (c : Dev nD) : finalA m ρ c (0 : Fin 5) = m ((c : Thread nD τ).loc main_arg0) ∧ finalA m ρ c (1 : Fin 5) = m ((c : Thread nD τ).loc main_arg1)
    ∧ finalA m ρ c (2 : Fin 5) = m ((c : Thread nD τ).loc main_arg2) ∧ finalA m ρ c (3 : Fin 5) = m ((c : Thread nD τ).loc main_arg3) :=
  ⟨(dats (F := F) m ρ 0 c).arrAt_in (0 : Fin 5) rfl _, (dats (F := F) m ρ 0 c).arrAt_in (1 : Fin 5) rfl _,
    (dats (F := F) m ρ 0 c).arrAt_in (2 : Fin 5) rfl _, (dats (F := F) m ρ 0 c).arrAt_in (3 : Fin 5) rfl _⟩

/-- The kernel leaves its arguments alone and its semaphores at zero. -/
theorem quiescent : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_mono (run_main m ρ) fun r h => ⟨fun c => by
    obtain ⟨h0, h1, h2, h3⟩ := finalA_in m ρ c
    exact ⟨(h.1 c (0 : Fin 5)).trans h0, (h.1 c (1 : Fin 5)).trans h1, (h.1 c (2 : Fin 5)).trans h2, (h.1 c (3 : Fin 5)).trans h3⟩, h.2⟩

end Cert.KernelIdealRun
-- ==== Proof.Value.lean ====
/-
# The value of the sharded gated MLP kernel over the extended reals

Each device multiplies its share of the hidden layer with its share of the last weight; the parts of the other devices
are added row block by row block, and the finished row blocks are gathered. Over the extended reals no rounding is left,
so every device's result is the sum over the four devices of their products, which is the one product of the whole
hidden layer with the whole last weight: what the reference computes.
-/
module

public import proofs.«01_k».proof.Proof.KernelIdealLaunch
public import proofs.«01_k».proof.Proof.Gen.ReferenceIdeal.Run
public import Idealize.ShloMosaic.Lib.Layout
public import Idealize.ShloMosaic.Lib.IdealHost
public import Idealize.ShloMosaic.Lib.MatmulPlain
public import Idealize.ShloMosaic.Lib.StackMember
public import Idealize.ShloMosaic.Lib.ValueLayout
public import Idealize.ShloMosaic.Lib.Pipeline.ValueKit.Tiles

@[expose] public section

noncomputable section

namespace Cert.KernelIdealRun

open Cert.KernelIdeal Cert.KernelIdeal.Gen

open Idealize.ShloMosaic Idealize.ShloMosaic.ValueIdx
open Idealize.ShloMosaic.TcCoe
open Idealize.SL Idealize.SL.Sem
open scoped BigOperators

variable (m : (ℓ : Loc nD τ sig) → Buf (Elt Ideal) ℓ) (ρ : Dev nD → PrngReg)

/-! ## What a device holds of the arguments -/

/-- The one block of an argument is the argument. -/
theorem xs_eq (c : Dev nD) : xs m ρ c = m ((c : Thread nD τ).loc main_arg0) := by
  have hz : (fun a => win0_0.index t0_0 a * main_arg0.ty.shape.size a) = fun _ => 0 := funext fun a => by fin_cases a <;> decide
  exact Memref.read_access_unit_zero (Elt Ideal) main_arg0 hz (fun a => by rw [congrFun hz a]; simp) _
theorem gs_eq (c : Dev nD) : gs m ρ c = m ((c : Thread nD τ).loc main_arg1) := by
  have hz : (fun a => win0_1.index t0_0 a * main_arg1.ty.shape.size a) = fun _ => 0 := funext fun a => by fin_cases a <;> decide
  exact Memref.read_access_unit_zero (Elt Ideal) main_arg1 hz (fun a => by rw [congrFun hz a]; simp) _
theorem us_eq (c : Dev nD) : us m ρ c = m ((c : Thread nD τ).loc main_arg2) := by
  have hz : (fun a => win0_2.index t0_0 a * main_arg2.ty.shape.size a) = fun _ => 0 := funext fun a => by fin_cases a <;> decide
  exact Memref.read_access_unit_zero (Elt Ideal) main_arg2 hz (fun a => by rw [congrFun hz a]; simp) _
theorem ds_eq (c : Dev nD) : ds m ρ c = m ((c : Thread nD τ).loc main_arg3) := by
  have hz : (fun a => win0_3.index t0_0 a * main_arg3.ty.shape.size a) = fun _ => 0 := funext fun a => by fin_cases a <;> decide
  exact Memref.read_access_unit_zero (Elt Ideal) main_arg3 hz (fun a => by rw [congrFun hz a]; simp) _

/-! ## One device's product -/

/-- An entry of the product of two matrices over the extended reals. -/
def mul2 {M K N : ℕ} (a : (⟨2, ![M, K]⟩ : Shape).Idx → EReal) (b : (⟨2, ![K, N]⟩ : Shape).Idx → EReal) (r : Fin M) (n : Fin N) : EReal :=
  ∑ k : Fin K, a (ix2 r k) * b (ix2 k n)

/-- The gated unit: the gate times `u / (1 + exp (-u))`. -/
def act (g u : EReal) : EReal := g * Ideal.div u (1 + Ideal.exp (-u))

/-- A product with the accumulator at zero, at an entry. -/
theorem matmul_zero {M K N : ℕ} {φ₁ φ₂ : FTy} (a : FVec Ideal ⟨2, ![M, K]⟩ φ₁) (b : FVec Ideal ⟨2, ![K, N]⟩ φ₂) (r : Fin M) (n : Fin N) :
    matmul (DotDims.plain M K N) none a b (constant ⟨2, ![M, N]⟩ .f32 0x00000000#32) (ix2 r n) = mul2 a b r n := by
  refine (Ideal.matmul_plain_apply _ _ _ _ r n).trans ?_
  rw [constant_apply, Ideal.ofBits_zero_f32, zero_add]
  rfl

/-- An entry of a device's hidden layer: the gated unit of the two products. -/
theorem hid_apply (c : Dev nD) (r : Fin 512) (n : Fin 1024) : hid m ρ c (ix2 r n)
    = act (mul2 (M := 512) (K := 512) (N := 1024) (xs m ρ c) (gs m ρ c) r n) (mul2 (M := 512) (K := 512) (N := 1024) (xs m ρ c) (us m ρ c) r n) := by
  have h3 : (k0_pay3 (gs m ρ c) (xs m ρ c)) (ix2 r n) = mul2 (M := 512) (K := 512) (N := 1024) (xs m ρ c) (gs m ρ c) r n := by
    unfold k0_pay3 k0_pay2
    rw [shapeCast_self, shapeCast_self]
    exact matmul_zero (φ₁ := .bf16) (φ₂ := .bf16) _ _ r n
  have h4 : (k0_pay4 (us m ρ c) (xs m ρ c)) (ix2 r n) = mul2 (M := 512) (K := 512) (N := 1024) (xs m ρ c) (us m ρ c) r n := by
    unfold k0_pay4 k0_pay2
    rw [shapeCast_self, shapeCast_self]
    exact matmul_zero (φ₁ := .bf16) (φ₂ := .bf16) _ _ r n
  rw [← h3, ← h4]
  unfold hid k0_pay5 act
  generalize k0_pay3 (gs m ρ c) (xs m ρ c) = a
  generalize k0_pay4 (us m ρ c) (xs m ρ c) = b
  rw [shapeCast_self]
  show (a (ix2 r n) * Ideal.div (b (ix2 r n)) (Ideal.ofBits .f32 0x3F800000#32
    + Ideal.exp (Ideal.ofBits .f32 0x00000000#32 - b (ix2 r n))) : EReal) = _
  rw [Ideal.ofBits_one_f32, Ideal.ofBits_zero_f32, zero_sub]

/-- Device `c`'s share of the product with the last weight. -/
def prod (c : Dev nD) (r q : Fin 512) : EReal := mul2 (M := 512) (K := 1024) (N := 512) (hid m ρ c) (wd m ρ c) r q

/-- A block of rows read from an array, at an entry. -/
theorem rows_apply (f : Vec Ideal S512x1024 .bf16) (off : Fin 2 → ℕ) (inb : ∀ a, off a + S128x1024.size a ≤ S512x1024.size a)
    (b : ℕ) (ho : off = ![b, 0]) (i : Fin 128) (n : Fin 1024) (r : Fin 512) (hr : r.val = b + i.val) :
    hM.view.readAt (Elt Ideal) (Rect.unit (s := S512x1024) off S128x1024.size inb).toLoadRect f (ix2 i n) = f (ix2 r n) := by
  subst ho
  show f _ = f _
  refine congrArg f (funext fun a => Fin.ext ?_)
  match a with
  | ⟨0, _⟩ => show b + 1 * i.val = r.val; omega
  | ⟨1, _⟩ => show 0 + 1 * n.val = n.val; omega

/-- The row block at row `b` of the product, from that block of the hidden layer. -/
theorem block_prod (c : Dev nD) (off : Fin 2 → ℕ) (inb : ∀ a, off a + S128x1024.size a ≤ S512x1024.size a)
    (b : ℕ) (ho : off = ![b, 0]) (i : Fin 128) (q : Fin 512) (r : Fin 512) (hr : r.val = b + i.val) :
    (matmul (φ₁ := .bf16) (φ₂ := .bf16) dot_S128x1024_S1024x512_S128x512_1_0_0_1_n_n none
      (hM.view.readAt (Elt Ideal) (Rect.unit (s := S512x1024) off S128x1024.size inb).toLoadRect (hid m ρ c)) (wd m ρ c)
      (constant S128x512 .f32 0x00000000#32)) (ix2 i q) = prod m ρ c r q := by
  refine (matmul_zero (φ₁ := .bf16) (φ₂ := .bf16) _ _ i q).trans ?_
  unfold prod mul2
  refine (Finset.sum_congr rfl fun n _ => ?_)
  rw [rows_apply (hid m ρ c) off inb b ho i n r hr]

/-! ## The sum over the devices -/

/-- A part a device sends is the rows of its product that belong to the receiver. -/
theorem part_apply (c : Dev nD) (k : Fin 3) (i : Fin 128) (q r : Fin 512) (hr : r.val = 128 * (peer k c).val + i.val) :
    part m ρ c k (ix2 i q) = prod m ρ c r q := by
  unfold part k0_pay6
  show down (up _) _ = _
  rw [down_up]
  refine block_prod m ρ c _ (k0_off1_inb c k) (128 * (peer k c).val) ?_ i q r hr
  rw [k0_off1_eq]
  rfl

/-- The part received in slot `j` is the receiver's rows of the product of device `peer j c`. -/
theorem got_apply (c : Dev nD) (j : Fin 3) (i : Fin 128) (q r : Fin 512) (hr : r.val = 128 * c.val + i.val) :
    got m ρ c j (ix2 i q) = prod m ρ (peer j c) r q :=
  part_apply m ρ (peer j c) (rv j) i q r (by rw [peer_rv]; exact hr)

/-- The sum over the devices of their products. -/
def total (r q : Fin 512) : EReal := ∑ d : Dev nD, prod m ρ d r q

/-- A device and its three peers are all four devices. -/
theorem sum_ring (f : Dev nD → EReal) (c : Dev nD) : f c + f (peer 0 c) + f (peer 1 c) + f (peer 2 c) = ∑ d : Dev nD, f d := by
  rw [show (∑ d : Dev nD, f d) = f 0 + f 1 + f 2 + f 3 from Fin.sum_univ_four f]
  have hc : c = 0 ∨ c = 1 ∨ c = 2 ∨ c = 3 := by revert c; decide
  rcases hc with rfl | rfl | rfl | rfl
  · rfl
  · show f 1 + f 2 + f 3 + f 0 = _
    ac_rfl
  · show f 2 + f 3 + f 0 + f 1 = _
    ac_rfl
  · show f 3 + f 0 + f 1 + f 2 = _
    ac_rfl

/-- A device's finished rows are those rows of the sum. -/
theorem accF_apply (c : Dev nD) (i : Fin 128) (q r : Fin 512) (hr : r.val = 128 * c.val + i.val) :
    accF m ρ c (ix2 i q) = total m ρ r q := by
  unfold accF acc0 k0_pay10 k0_pay9
  show ((_ : EReal) + down (up (got m ρ c 0)) (ix2 i q) + down (up (got m ρ c 1)) (ix2 i q) + down (up (got m ρ c 2)) (ix2 i q) : EReal) = _
  rw [down_up, down_up, down_up, got_apply m ρ c 0 i q r hr, got_apply m ρ c 1 i q r hr, got_apply m ρ c 2 i q r hr,
    block_prod m ρ c _ (k0_off2_inb c) (128 * c.val) (k0_off2_eq c) i q r hr]
  exact sum_ring (fun d => prod m ρ d r q) c

/-- The rounded rows are the same over the extended reals. -/
theorem accB_eq (c : Dev nD) : accB m ρ c = accF m ρ c := by
  unfold accB k0_pay11
  exact shapeCast_self _ _

/-- A finished row block stored at row `b`, where `b` is its device's first row, holds those rows of the sum. -/
theorem tile (c : Dev nD) (y : S512x512.Idx) (off : Fin 2 → ℕ) (ho : off = ![128 * c.val, 0]) (x : S128x512.Idx)
    (h : ∀ a, (y a : ℕ) = off a + x a) : accF m ρ c x = total m ρ (y 0) (y 1) := by
  subst ho
  have h0 : (y 0).val = 128 * c.val + (x 0).val := h 0
  have h1 : (y 1).val = 0 + (x 1).val := h 1
  have hq : (x 1 : Fin 512) = y 1 := Fin.ext (by omega)
  rw [eq_ix2 x]
  exact (accF_apply m ρ c (x 0) (x 1) (y 0) h0).trans (congrArg (total m ρ (y 0)) hq)

/-- Every device's result is the sum over the devices of their products. -/
theorem outAt_apply (c : Dev nD) (y : S512x512.Idx) : outAt m ρ c y = total m ρ (y 0) (y 1) := by
  have e0 : oM.view.read (Elt Ideal) (outAt m ρ c) = outAt m ρ c := View.read_whole cc0_stg4_0 _
  have e : oM.view.read (Elt Ideal) (outAt m ρ c) = View.canon (outL m ρ c) := by
    unfold outAt
    exact View.read_writes_eq_canon oM.view _ _ (out_cover m ρ c)
  rw [← e0, e]
  refine View.canon_eq_of_allAt _ y _ (out_cover m ρ c y) ?_
  have hof : ∀ j : Fin 3, ∀ x : S128x512.Idx, (∀ a, (y a : ℕ) = k0_off4 c (BitVec.ofNat 32 j.val) a + x a) →
      accB m ρ (peer j c) x = total m ρ (y 0) (y 1) := fun j x h => by
    rw [accB_eq]
    exact tile m ρ (peer j c) y _ (k0_off4_eq c j) x h
  refine View.allAt_cons_unit _ _ _ _ _ (fun x h => ?_) (View.allAt_cons_unit _ _ _ _ _ (fun x h => ?_)
    (View.allAt_cons_unit _ _ _ _ _ (fun x h => ?_) (View.allAt_cons_unit _ _ _ _ _ (fun x h => ?_) (View.allAt_nil _ _))))
  · show down (up (accB m ρ (peer 2 c))) x = _
    rw [down_up]; exact hof 2 x h
  · show down (up (accB m ρ (peer 1 c))) x = _
    rw [down_up]; exact hof 1 x h
  · show down (up (accB m ρ (peer 0 c))) x = _
    rw [down_up]; exact hof 0 x h
  · exact tile m ρ c y _ (k0_off3_eq c) x h

/-- The write-back of the result writes the whole of it. -/
theorem flushed_eq (c : Dev nD) (t : Fin cfg0.N) : (dats m ρ 0 c).flushed (4 : Fin 5) t
    = ((cfg0.win (4 : Fin 5)).blk t).view.read (Elt Ideal) (outAt m ρ c : Buf (Elt Ideal) ((cfg0.win (4 : Fin 5)).arr.view.loc (c : Thread nD τ))) := by
  obtain rfl : t = t0_0 := fin_N0 t
  show (cfg0.win (4 : Fin 5)).cut (grid0.coords t0_0) ((dats m ρ 0 c).after (4 : Fin 5) t0_0) = _
  dsimp only [dats]
  generalize outAt m ρ c = X
  have hz : (fun a => win0_4.index t0_0 a * main_v1.ty.shape.size a) = fun _ => 0 := funext fun a => by fin_cases a <;> decide
  exact (Memref.read_access_unit_zero (Elt Ideal) main_v1 hz (fun a => by rw [congrFun hz a]; simp) X).symm

/-- The result array ends at the computed contents. -/
theorem finalA_out (c : Dev nD) : finalA m ρ c (4 : Fin 5) = outAt m ρ c :=
  (dats m ρ 0 c).arrAt_eq_of_cover (4 : Fin 5) (outAt m ρ c) (fun t _ => flushed_eq m ρ c t) fun i =>
    ⟨t0_0, flush0_4 t0_0, by
      show i ∈ ((View.whole main_v1).slice (win0_4.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [show win0_4.index t0_0 0 * win0_4.size 0 = 0 from by decide +kernel, show win0_4.xsize (grid0.coords t0_0) 0 = 512 from by decide +kernel]
        omega
      | ⟨1, _⟩ =>
        show win0_4.index t0_0 1 * win0_4.size 1 ≤ (i 1 : Nat) ∧ (i 1 : Nat) < win0_4.index t0_0 1 * win0_4.size 1 + win0_4.xsize (grid0.coords t0_0) 1
        rw [show win0_4.index t0_0 1 * win0_4.size 1 = 0 from by decide +kernel, show win0_4.xsize (grid0.coords t0_0) 1 = 512 from by decide +kernel]
        omega⟩

/-! ## Against the reference -/

/-- An entry of the whole hidden layer. -/
def hidden (X : S512x512.Idx → EReal) (G U : Cert.ReferenceIdeal.S512x4096.Idx → EReal) (i : Cert.ReferenceIdeal.S512x4096.Idx) : EReal :=
  act (mul2 (M := 512) (K := 512) (N := 4096) X G (i 0) (i 1)) (mul2 (M := 512) (K := 512) (N := 4096) X U (i 0) (i 1))

/-- The gated MLP: the product of the hidden layer with the last weight. -/
def mlp (X : S512x512.Idx → EReal) (G U : Cert.ReferenceIdeal.S512x4096.Idx → EReal) (D : Cert.ReferenceIdeal.S4096x512.Idx → EReal) (i : S512x512.Idx) : EReal :=
  mul2 (M := 512) (K := 4096) (N := 512) (hidden X G U) D (i 0) (i 1)

/-- A sum over the 4096 hidden columns, device by device. -/
theorem sum_split (f : Fin 4096 → EReal) : ∑ k, f k = ∑ d : Dev nD, ∑ n : Fin 1024, f ⟨d.val * 1024 + n.val, by have := n.isLt; have : d.val < 4 := d.isLt; omega⟩ := by
  rw [← Equiv.sum_comp (finProdFinEquiv (m := 4) (n := 1024)) f, Fintype.sum_prod_type]
  refine Finset.sum_congr rfl fun d _ => Finset.sum_congr rfl fun n _ => congrArg f (Fin.ext ?_)
  show n.val + 1024 * d.val = d.val * 1024 + n.val
  omega

section
variable (X : S512x512.Idx → EReal) (G U : Cert.ReferenceIdeal.S512x4096.Idx → EReal) (D : Cert.ReferenceIdeal.S4096x512.Idx → EReal)

/-- When each device holds its blocks of the arrays, the sum over the devices of their products is the gated MLP. -/
theorem total_eq (tc : Layout.Tiles S512x1024 Cert.ReferenceIdeal.S512x4096 1 4) (tr : Layout.Tiles S1024x512 Cert.ReferenceIdeal.S4096x512 0 4)
    (h0 : ∀ c : Dev nD, m ((c : Thread nD τ).loc main_arg0) = X)
    (h1 : ∀ c : Dev nD, m ((c : Thread nD τ).loc main_arg1) = Layout.block S512x1024 Cert.ReferenceIdeal.S512x4096 1 4 c G tc)
    (h2 : ∀ c : Dev nD, m ((c : Thread nD τ).loc main_arg2) = Layout.block S512x1024 Cert.ReferenceIdeal.S512x4096 1 4 c U tc)
    (h3 : ∀ c : Dev nD, m ((c : Thread nD τ).loc main_arg3) = Layout.block S1024x512 Cert.ReferenceIdeal.S4096x512 0 4 c D tr)
    (r q : Fin 512) : total m ρ r q = mlp X G U D (ix2 r q) := by
  show total m ρ r q = mul2 (M := 512) (K := 4096) (N := 512) (hidden X G U) D r q
  unfold mul2 total prod mul2
  rw [sum_split]
  refine Finset.sum_congr rfl fun d _ => Finset.sum_congr rfl fun n _ => ?_
  have hd : d.val < 4 := d.isLt
  have hn : n.val < 1024 := n.isLt
  have eh : hid m ρ d (ix2 r n) = hidden X G U (ix2 r ⟨d.val * 1024 + n.val, by omega⟩) := by
    have e : ∀ W : Cert.ReferenceIdeal.S512x4096.Idx → EReal, ∀ k : Fin 512,
        Layout.block S512x1024 Cert.ReferenceIdeal.S512x4096 1 4 d W tc (ix2 k n) = W (ix2 k ⟨d.val * 1024 + n.val, by omega⟩) := fun W k => by
      rw [Layout.block_apply]
      refine congrArg W (funext fun a => ?_)
      match a with
      | ⟨0, _⟩ => rfl
      | ⟨1, _⟩ => rfl
    rw [hid_apply, xs_eq, gs_eq, us_eq, h0, h1, h2]
    show _ = act (mul2 (M := 512) (K := 512) (N := 4096) X G r ⟨d.val * 1024 + n.val, by omega⟩)
      (mul2 (M := 512) (K := 512) (N := 4096) X U r ⟨d.val * 1024 + n.val, by omega⟩)
    unfold mul2
    exact congrArg₂ act (Finset.sum_congr rfl fun k _ => congrArg (X (ix2 r k) * ·) (e G k))
      (Finset.sum_congr rfl fun k _ => congrArg (X (ix2 r k) * ·) (e U k))
  have ed : wd m ρ d (ix2 n q) = D (ix2 ⟨d.val * 1024 + n.val, by omega⟩ q) := by
    unfold wd k0_pay1
    rw [shapeCast_self, ds_eq, h3, Layout.block_apply]
    refine congrArg D (funext fun a => ?_)
    match a with
    | ⟨0, _⟩ => rfl
    | ⟨1, _⟩ => rfl
  exact congrArg₂ (· * ·) eh ed

/-- What the reference computes from the arrays is the gated MLP. -/
theorem ref_eq :
    (extf .f32 (truncf .bf16 (Host.dotGeneral (φ₁ := .bf16) (φ₂ := .bf16) Cert.ReferenceIdeal.dot_S512x4096_S4096x512_S512x512_1_0_0_1_n_n none
      (mulf (truncf .bf16 (Host.dotGeneral (φ₁ := .bf16) (φ₂ := .bf16) Cert.ReferenceIdeal.dot_S512x512_S512x4096_S512x4096_1_0_0_1_n_n none X G) Cert.ReferenceIdeal.Facts₀.bitsLt_bf16_f32)
        (Host.divf (truncf .bf16 (Host.dotGeneral (φ₁ := .bf16) (φ₂ := .bf16) Cert.ReferenceIdeal.dot_S512x512_S512x4096_S512x4096_1_0_0_1_n_n none X U) Cert.ReferenceIdeal.Facts₀.bitsLt_bf16_f32)
          (addf (broadcastInDim Cert.ReferenceIdeal.S512x4096 ![] Cert.ReferenceIdeal.Facts₀.bcast_S_S512x4096 (constant Cert.ReferenceIdeal.S_ .bf16 0x3F80#16))
            (Host.exp (Host.negf (truncf .bf16 (Host.dotGeneral (φ₁ := .bf16) (φ₂ := .bf16) Cert.ReferenceIdeal.dot_S512x512_S512x4096_S512x4096_1_0_0_1_n_n none X U)
              Cert.ReferenceIdeal.Facts₀.bitsLt_bf16_f32)))))) D) Cert.ReferenceIdeal.Facts₀.bitsLt_bf16_f32) Cert.ReferenceIdeal.Facts₀.bitsLt_bf16_f32 : FVec Ideal Cert.ReferenceIdeal.S512x512 .f32)
    = mlp X G U D := by
  have hd : ∀ W : Cert.ReferenceIdeal.S512x4096.Idx → EReal, ∀ k : Fin 512, ∀ n : Fin 4096,
      (Host.dotGeneral (F := Ideal) (φ₁ := .bf16) (φ₂ := .bf16) Cert.ReferenceIdeal.dot_S512x512_S512x4096_S512x4096_1_0_0_1_n_n none X W) (ix2 k n)
        = mul2 (M := 512) (K := 512) (N := 4096) X W k n := fun W k n => StackMember.dotGeneral_plain_apply (φ₁ := .bf16) (φ₂ := .bf16) none X W k n
  funext i
  rw [eq_ix2 i]
  refine (StackMember.dotGeneral_plain_apply (φ₁ := .bf16) (φ₂ := .bf16) none _ D (i 0) (i 1)).trans ?_
  show _ = ∑ k : Fin 4096, hidden X G U (ix2 (i 0) k) * D (ix2 k (i 1))
  refine Finset.sum_congr rfl fun k _ => congrArg (· * D (ix2 k (i 1))) ?_
  have hG := hd G (i 0) k
  have hU := hd U (i 0) k
  show _ = act (mul2 (M := 512) (K := 512) (N := 4096) X G (i 0) k) (mul2 (M := 512) (K := 512) (N := 4096) X U (i 0) k)
  rw [← hG, ← hU]
  generalize Host.dotGeneral (F := Ideal) (φ₁ := .bf16) (φ₂ := .bf16) Cert.ReferenceIdeal.dot_S512x512_S512x4096_S512x4096_1_0_0_1_n_n none X G = a
  generalize Host.dotGeneral (F := Ideal) (φ₁ := .bf16) (φ₂ := .bf16) Cert.ReferenceIdeal.dot_S512x512_S512x4096_S512x4096_1_0_0_1_n_n none X U = b
  show (a (ix2 (i 0) k) * Ideal.div (b (ix2 (i 0) k)) (Ideal.ofBits .bf16 0x3F80#16 + Ideal.exp (-b (ix2 (i 0) k))) : EReal) = _
  rw [Ideal.ofBits_one_bf16]
  rfl

end

/-- The kernel's runs: every device's result is the gated MLP of the whole arrays, when each device holds its blocks of
    them, and the arguments are unchanged. -/
theorem run_mlp (X : S512x512.Idx → EReal) (G U : Cert.ReferenceIdeal.S512x4096.Idx → EReal) (D : Cert.ReferenceIdeal.S4096x512.Idx → EReal)
    (tc : Layout.Tiles S512x1024 Cert.ReferenceIdeal.S512x4096 1 4) (tr : Layout.Tiles S1024x512 Cert.ReferenceIdeal.S4096x512 0 4)
    (h0 : ∀ c : Dev nD, m ((c : Thread nD τ).loc main_arg0) = X)
    (h1 : ∀ c : Dev nD, m ((c : Thread nD τ).loc main_arg1) = Layout.block S512x1024 Cert.ReferenceIdeal.S512x4096 1 4 c G tc)
    (h2 : ∀ c : Dev nD, m ((c : Thread nD τ).loc main_arg2) = Layout.block S512x1024 Cert.ReferenceIdeal.S512x4096 1 4 c U tc)
    (h3 : ∀ c : Dev nD, m ((c : Thread nD τ).loc main_arg3) = Layout.block S1024x512 Cert.ReferenceIdeal.S4096x512 0 4 c D tr) :
    θ_run defs (onTc (τ := τ) (main (F := Ideal))) (s₀ m ρ) (fun r => ∀ c : Dev nD,
      r.2.mem ((c.tc : Thread nD τ).loc main_v1) = mlp X G U D
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  obtain ⟨a0, a1, a2, a3⟩ := finalA_in m ρ c
  refine ⟨(h.1 c (4 : Fin 5)).trans ((finalA_out m ρ c).trans (funext fun i => ?_)), (h.1 c (0 : Fin 5)).trans a0,
    (h.1 c (1 : Fin 5)).trans a1, (h.1 c (2 : Fin 5)).trans a2, (h.1 c (3 : Fin 5)).trans a3⟩
  rw [outAt_apply]
  refine (total_eq m ρ X G U D tc tr h0 h1 h2 h3 (i 0) (i 1)).trans ?_
  exact congrArg (mlp X G U D) (eq_ix2 i).symm

end Cert.KernelIdealRun
-- ==== Proof.lean ====
/-
# The claims about the sharded gated MLP kernel

The kernel as printed, the kernel over the extended reals and the reference each end with their arguments unchanged and
every semaphore at zero, and over the extended reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed: every run ends, with the arguments unchanged and every semaphore at zero. -/
theorem frame_kernel : Cert.quiescent_Kernel :=
  fun m g _ => Cert.KernelRun.quiescent m g

/-- The same of the kernel over the extended reals, -/
theorem frame_ideal : Cert.quiescent_KernelIdeal :=
  fun m g _ => Cert.KernelIdealRun.quiescent m g

/-- and of the reference, which names no semaphore. -/
theorem frame_reference : Cert.quiescent_ReferenceIdeal :=
  fun m g _ => (θ_run Cert.ReferenceIdeal.defs _ _).mono
    (fun r h => ⟨fun c => (h c).2, Idealize.ShloMosaic.sem_eq_zero_of_no_sems (by decide) r.2⟩) (Cert.ReferenceIdeal.Value.run m g)

/-- Over the extended reals every device's result is the reference's result: both are the gated MLP of the whole arrays. -/
theorem algebraic : Cert.algebraic_KernelIdeal_ReferenceIdeal := fun m g m' g' _ h =>
  ⟨_, Cert.KernelIdealRun.run_mlp m g _ _ _ _ _ _ (fun c => (h c).1) (fun c => (h c).2.1) (fun c => (h c).2.2.1) (fun c => (h c).2.2.2),
    (θ_run Cert.ReferenceIdeal.defs _ _).mono
      (fun r hr => ⟨(hr 0).1.trans (Cert.KernelIdealRun.ref_eq _ _ _ _), (hr 0).2⟩) (Cert.ReferenceIdeal.Value.run m' g')⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
